-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x1024 : Shape := ⟨2, ![1024, 1024]⟩
abbrev S1024x32 : Shape := ⟨2, ![1024, 32]⟩
abbrev S32x32x32 : Shape := ⟨3, ![32, 32, 32]⟩
abbrev S32 : Shape := ⟨1, ![32]⟩
abbrev S_ : Shape := ⟨0, ![]⟩
abbrev S32x32 : Shape := ⟨2, ![32, 32]⟩
abbrev S1x32x32 : Shape := ⟨3, ![1, 32, 32]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S1024x32, .f32⟩
  | .local _ .vmem, ⟨0, _⟩ => ⟨S32x1024, .f32⟩
  | .local _ .vmem, ⟨1, _⟩ => ⟨S1024x1024, .f32⟩
  | .local _ .vmem, ⟨2, _⟩ => ⟨S1024x32, .f32⟩
  | .local _ .vmem, ⟨3, _⟩ => ⟨S32x32x32, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_199 : BitVec 32 := 32#32
  let v276 : BitVec 32 := Scalar.muli v2 c32_i32_199
  v276
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_199 : BitVec 32 := 32#32
  let v276 : BitVec 32 := Scalar.muli v2 c32_i32_199
  let v277 : BitVec 32 := v276
  let c0_i32_204 : BitVec 32 := 0#32
  ![v277.toNat, 0]
def k0_off2 (d0 : Dev nD) (c1_i32_197 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v274 : BitVec 32 := Scalar.addi v2 c1_i32_197
  let c32_i32_198 : BitVec 32 := 32#32
  let v275 : BitVec 32 := Scalar.remsi v274 c32_i32_198
  let c0_i32_205 : BitVec 32 := 0#32
  let c0_i32_206 : BitVec 32 := 0#32
  ![v275.toNat, 0, 0]
def k0_dev32 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_197 : BitVec 32 := 1#32
  let v274 : BitVec 32 := Scalar.addi v2 c1_i32_197
  let c32_i32_198 : BitVec 32 := 32#32
  let v275 : BitVec 32 := Scalar.remsi v274 c32_i32_198
  let c1_i32_202 : BitVec 32 := 1#32
  let v278 : BitVec 32 := Scalar.muli v275 c1_i32_202
  let v279 : BitVec 32 := Scalar.addi c0_i32_203 v278
  v279.toNat
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_209 : BitVec 32 := 32#32
  let v289 : BitVec 32 := Scalar.muli v2 c32_i32_209
  v289
def k0_dev33 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_207 : BitVec 32 := 2#32
  let v287 : BitVec 32 := Scalar.addi v2 c2_i32_207
  let c32_i32_208 : BitVec 32 := 32#32
  let v288 : BitVec 32 := Scalar.remsi v287 c32_i32_208
  let c1_i32_212 : BitVec 32 := 1#32
  let v291 : BitVec 32 := Scalar.muli v288 c1_i32_212
  let v292 : BitVec 32 := Scalar.addi c0_i32_213 v291
  v292.toNat
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_219 : BitVec 32 := 32#32
  let v302 : BitVec 32 := Scalar.muli v2 c32_i32_219
  v302
def k0_dev34 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_217 : BitVec 32 := 3#32
  let v300 : BitVec 32 := Scalar.addi v2 c3_i32_217
  let c32_i32_218 : BitVec 32 := 32#32
  let v301 : BitVec 32 := Scalar.remsi v300 c32_i32_218
  let c1_i32_222 : BitVec 32 := 1#32
  let v304 : BitVec 32 := Scalar.muli v301 c1_i32_222
  let v305 : BitVec 32 := Scalar.addi c0_i32_223 v304
  v305.toNat
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_229 : BitVec 32 := 32#32
  let v315 : BitVec 32 := Scalar.muli v2 c32_i32_229
  v315
def k0_dev35 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_227 : BitVec 32 := 4#32
  let v313 : BitVec 32 := Scalar.addi v2 c4_i32_227
  let c32_i32_228 : BitVec 32 := 32#32
  let v314 : BitVec 32 := Scalar.remsi v313 c32_i32_228
  let c1_i32_232 : BitVec 32 := 1#32
  let v317 : BitVec 32 := Scalar.muli v314 c1_i32_232
  let v318 : BitVec 32 := Scalar.addi c0_i32_233 v317
  v318.toNat
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_239 : BitVec 32 := 32#32
  let v328 : BitVec 32 := Scalar.muli v2 c32_i32_239
  v328
def k0_dev36 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_237 : BitVec 32 := 5#32
  let v326 : BitVec 32 := Scalar.addi v2 c5_i32_237
  let c32_i32_238 : BitVec 32 := 32#32
  let v327 : BitVec 32 := Scalar.remsi v326 c32_i32_238
  let c1_i32_242 : BitVec 32 := 1#32
  let v330 : BitVec 32 := Scalar.muli v327 c1_i32_242
  let v331 : BitVec 32 := Scalar.addi c0_i32_243 v330
  v331.toNat
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_249 : BitVec 32 := 32#32
  let v341 : BitVec 32 := Scalar.muli v2 c32_i32_249
  v341
def k0_dev37 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_247 : BitVec 32 := 6#32
  let v339 : BitVec 32 := Scalar.addi v2 c6_i32_247
  let c32_i32_248 : BitVec 32 := 32#32
  let v340 : BitVec 32 := Scalar.remsi v339 c32_i32_248
  let c1_i32_252 : BitVec 32 := 1#32
  let v343 : BitVec 32 := Scalar.muli v340 c1_i32_252
  let v344 : BitVec 32 := Scalar.addi c0_i32_253 v343
  v344.toNat
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_259 : BitVec 32 := 32#32
  let v354 : BitVec 32 := Scalar.muli v2 c32_i32_259
  v354
def k0_dev38 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_257 : BitVec 32 := 7#32
  let v352 : BitVec 32 := Scalar.addi v2 c7_i32_257
  let c32_i32_258 : BitVec 32 := 32#32
  let v353 : BitVec 32 := Scalar.remsi v352 c32_i32_258
  let c1_i32_262 : BitVec 32 := 1#32
  let v356 : BitVec 32 := Scalar.muli v353 c1_i32_262
  let v357 : BitVec 32 := Scalar.addi c0_i32_263 v356
  v357.toNat
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_269 : BitVec 32 := 32#32
  let v367 : BitVec 32 := Scalar.muli v2 c32_i32_269
  v367
def k0_dev39 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_267 : BitVec 32 := 8#32
  let v365 : BitVec 32 := Scalar.addi v2 c8_i32_267
  let c32_i32_268 : BitVec 32 := 32#32
  let v366 : BitVec 32 := Scalar.remsi v365 c32_i32_268
  let c1_i32_272 : BitVec 32 := 1#32
  let v369 : BitVec 32 := Scalar.muli v366 c1_i32_272
  let v370 : BitVec 32 := Scalar.addi c0_i32_273 v369
  v370.toNat
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_279 : BitVec 32 := 32#32
  let v380 : BitVec 32 := Scalar.muli v2 c32_i32_279
  v380
def k0_dev40 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_277 : BitVec 32 := 9#32
  let v378 : BitVec 32 := Scalar.addi v2 c9_i32_277
  let c32_i32_278 : BitVec 32 := 32#32
  let v379 : BitVec 32 := Scalar.remsi v378 c32_i32_278
  let c1_i32_282 : BitVec 32 := 1#32
  let v382 : BitVec 32 := Scalar.muli v379 c1_i32_282
  let v383 : BitVec 32 := Scalar.addi c0_i32_283 v382
  v383.toNat
def k0_mult10 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_289 : BitVec 32 := 32#32
  let v393 : BitVec 32 := Scalar.muli v2 c32_i32_289
  v393
def k0_dev41 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_287 : BitVec 32 := 10#32
  let v391 : BitVec 32 := Scalar.addi v2 c10_i32_287
  let c32_i32_288 : BitVec 32 := 32#32
  let v392 : BitVec 32 := Scalar.remsi v391 c32_i32_288
  let c1_i32_292 : BitVec 32 := 1#32
  let v395 : BitVec 32 := Scalar.muli v392 c1_i32_292
  let v396 : BitVec 32 := Scalar.addi c0_i32_293 v395
  v396.toNat
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_299 : BitVec 32 := 32#32
  let v406 : BitVec 32 := Scalar.muli v2 c32_i32_299
  v406
def k0_dev42 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_297 : BitVec 32 := 11#32
  let v404 : BitVec 32 := Scalar.addi v2 c11_i32_297
  let c32_i32_298 : BitVec 32 := 32#32
  let v405 : BitVec 32 := Scalar.remsi v404 c32_i32_298
  let c1_i32_302 : BitVec 32 := 1#32
  let v408 : BitVec 32 := Scalar.muli v405 c1_i32_302
  let v409 : BitVec 32 := Scalar.addi c0_i32_303 v408
  v409.toNat
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_309 : BitVec 32 := 32#32
  let v419 : BitVec 32 := Scalar.muli v2 c32_i32_309
  v419
def k0_dev43 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_307 : BitVec 32 := 12#32
  let v417 : BitVec 32 := Scalar.addi v2 c12_i32_307
  let c32_i32_308 : BitVec 32 := 32#32
  let v418 : BitVec 32 := Scalar.remsi v417 c32_i32_308
  let c1_i32_312 : BitVec 32 := 1#32
  let v421 : BitVec 32 := Scalar.muli v418 c1_i32_312
  let v422 : BitVec 32 := Scalar.addi c0_i32_313 v421
  v422.toNat
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v432 : BitVec 32 := Scalar.muli v2 c32_i32_319
  v432
def k0_dev44 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_317 : BitVec 32 := 13#32
  let v430 : BitVec 32 := Scalar.addi v2 c13_i32_317
  let c32_i32_318 : BitVec 32 := 32#32
  let v431 : BitVec 32 := Scalar.remsi v430 c32_i32_318
  let c1_i32_322 : BitVec 32 := 1#32
  let v434 : BitVec 32 := Scalar.muli v431 c1_i32_322
  let v435 : BitVec 32 := Scalar.addi c0_i32_323 v434
  v435.toNat
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_329 : BitVec 32 := 32#32
  let v445 : BitVec 32 := Scalar.muli v2 c32_i32_329
  v445
def k0_dev45 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_327 : BitVec 32 := 14#32
  let v443 : BitVec 32 := Scalar.addi v2 c14_i32_327
  let c32_i32_328 : BitVec 32 := 32#32
  let v444 : BitVec 32 := Scalar.remsi v443 c32_i32_328
  let c1_i32_332 : BitVec 32 := 1#32
  let v447 : BitVec 32 := Scalar.muli v444 c1_i32_332
  let v448 : BitVec 32 := Scalar.addi c0_i32_333 v447
  v448.toNat
def k0_mult15 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_339 : BitVec 32 := 32#32
  let v458 : BitVec 32 := Scalar.muli v2 c32_i32_339
  v458
def k0_dev46 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_337 : BitVec 32 := 15#32
  let v456 : BitVec 32 := Scalar.addi v2 c15_i32_337
  let c32_i32_338 : BitVec 32 := 32#32
  let v457 : BitVec 32 := Scalar.remsi v456 c32_i32_338
  let c1_i32_342 : BitVec 32 := 1#32
  let v460 : BitVec 32 := Scalar.muli v457 c1_i32_342
  let v461 : BitVec 32 := Scalar.addi c0_i32_343 v460
  v461.toNat
def k0_mult16 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_349 : BitVec 32 := 32#32
  let v471 : BitVec 32 := Scalar.muli v2 c32_i32_349
  v471
def k0_dev47 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_347 : BitVec 32 := 16#32
  let v469 : BitVec 32 := Scalar.addi v2 c16_i32_347
  let c32_i32_348 : BitVec 32 := 32#32
  let v470 : BitVec 32 := Scalar.remsi v469 c32_i32_348
  let c1_i32_352 : BitVec 32 := 1#32
  let v473 : BitVec 32 := Scalar.muli v470 c1_i32_352
  let v474 : BitVec 32 := Scalar.addi c0_i32_353 v473
  v474.toNat
def k0_mult17 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_359 : BitVec 32 := 32#32
  let v484 : BitVec 32 := Scalar.muli v2 c32_i32_359
  v484
def k0_dev48 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_357 : BitVec 32 := 17#32
  let v482 : BitVec 32 := Scalar.addi v2 c17_i32_357
  let c32_i32_358 : BitVec 32 := 32#32
  let v483 : BitVec 32 := Scalar.remsi v482 c32_i32_358
  let c1_i32_362 : BitVec 32 := 1#32
  let v486 : BitVec 32 := Scalar.muli v483 c1_i32_362
  let v487 : BitVec 32 := Scalar.addi c0_i32_363 v486
  v487.toNat
def k0_mult18 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_369 : BitVec 32 := 32#32
  let v497 : BitVec 32 := Scalar.muli v2 c32_i32_369
  v497
def k0_dev49 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_367 : BitVec 32 := 18#32
  let v495 : BitVec 32 := Scalar.addi v2 c18_i32_367
  let c32_i32_368 : BitVec 32 := 32#32
  let v496 : BitVec 32 := Scalar.remsi v495 c32_i32_368
  let c1_i32_372 : BitVec 32 := 1#32
  let v499 : BitVec 32 := Scalar.muli v496 c1_i32_372
  let v500 : BitVec 32 := Scalar.addi c0_i32_373 v499
  v500.toNat
def k0_mult19 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_379 : BitVec 32 := 32#32
  let v510 : BitVec 32 := Scalar.muli v2 c32_i32_379
  v510
def k0_dev50 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_377 : BitVec 32 := 19#32
  let v508 : BitVec 32 := Scalar.addi v2 c19_i32_377
  let c32_i32_378 : BitVec 32 := 32#32
  let v509 : BitVec 32 := Scalar.remsi v508 c32_i32_378
  let c1_i32_382 : BitVec 32 := 1#32
  let v512 : BitVec 32 := Scalar.muli v509 c1_i32_382
  let v513 : BitVec 32 := Scalar.addi c0_i32_383 v512
  v513.toNat
def k0_mult20 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_389 : BitVec 32 := 32#32
  let v523 : BitVec 32 := Scalar.muli v2 c32_i32_389
  v523
def k0_dev51 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_387 : BitVec 32 := 20#32
  let v521 : BitVec 32 := Scalar.addi v2 c20_i32_387
  let c32_i32_388 : BitVec 32 := 32#32
  let v522 : BitVec 32 := Scalar.remsi v521 c32_i32_388
  let c1_i32_392 : BitVec 32 := 1#32
  let v525 : BitVec 32 := Scalar.muli v522 c1_i32_392
  let v526 : BitVec 32 := Scalar.addi c0_i32_393 v525
  v526.toNat
def k0_mult21 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_399 : BitVec 32 := 32#32
  let v536 : BitVec 32 := Scalar.muli v2 c32_i32_399
  v536
def k0_dev52 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_397 : BitVec 32 := 21#32
  let v534 : BitVec 32 := Scalar.addi v2 c21_i32_397
  let c32_i32_398 : BitVec 32 := 32#32
  let v535 : BitVec 32 := Scalar.remsi v534 c32_i32_398
  let c1_i32_402 : BitVec 32 := 1#32
  let v538 : BitVec 32 := Scalar.muli v535 c1_i32_402
  let v539 : BitVec 32 := Scalar.addi c0_i32_403 v538
  v539.toNat
def k0_mult22 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_409 : BitVec 32 := 32#32
  let v549 : BitVec 32 := Scalar.muli v2 c32_i32_409
  v549
def k0_dev53 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_407 : BitVec 32 := 22#32
  let v547 : BitVec 32 := Scalar.addi v2 c22_i32_407
  let c32_i32_408 : BitVec 32 := 32#32
  let v548 : BitVec 32 := Scalar.remsi v547 c32_i32_408
  let c1_i32_412 : BitVec 32 := 1#32
  let v551 : BitVec 32 := Scalar.muli v548 c1_i32_412
  let v552 : BitVec 32 := Scalar.addi c0_i32_413 v551
  v552.toNat
def k0_mult23 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_419 : BitVec 32 := 32#32
  let v562 : BitVec 32 := Scalar.muli v2 c32_i32_419
  v562
def k0_dev54 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_417 : BitVec 32 := 23#32
  let v560 : BitVec 32 := Scalar.addi v2 c23_i32_417
  let c32_i32_418 : BitVec 32 := 32#32
  let v561 : BitVec 32 := Scalar.remsi v560 c32_i32_418
  let c1_i32_422 : BitVec 32 := 1#32
  let v564 : BitVec 32 := Scalar.muli v561 c1_i32_422
  let v565 : BitVec 32 := Scalar.addi c0_i32_423 v564
  v565.toNat
def k0_mult24 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_429 : BitVec 32 := 32#32
  let v575 : BitVec 32 := Scalar.muli v2 c32_i32_429
  v575
def k0_dev55 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_427 : BitVec 32 := 24#32
  let v573 : BitVec 32 := Scalar.addi v2 c24_i32_427
  let c32_i32_428 : BitVec 32 := 32#32
  let v574 : BitVec 32 := Scalar.remsi v573 c32_i32_428
  let c1_i32_432 : BitVec 32 := 1#32
  let v577 : BitVec 32 := Scalar.muli v574 c1_i32_432
  let v578 : BitVec 32 := Scalar.addi c0_i32_433 v577
  v578.toNat
def k0_mult25 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_439 : BitVec 32 := 32#32
  let v588 : BitVec 32 := Scalar.muli v2 c32_i32_439
  v588
def k0_dev56 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_437 : BitVec 32 := 25#32
  let v586 : BitVec 32 := Scalar.addi v2 c25_i32_437
  let c32_i32_438 : BitVec 32 := 32#32
  let v587 : BitVec 32 := Scalar.remsi v586 c32_i32_438
  let c1_i32_442 : BitVec 32 := 1#32
  let v590 : BitVec 32 := Scalar.muli v587 c1_i32_442
  let v591 : BitVec 32 := Scalar.addi c0_i32_443 v590
  v591.toNat
def k0_mult26 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_449 : BitVec 32 := 32#32
  let v601 : BitVec 32 := Scalar.muli v2 c32_i32_449
  v601
def k0_dev57 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_447 : BitVec 32 := 26#32
  let v599 : BitVec 32 := Scalar.addi v2 c26_i32_447
  let c32_i32_448 : BitVec 32 := 32#32
  let v600 : BitVec 32 := Scalar.remsi v599 c32_i32_448
  let c1_i32_452 : BitVec 32 := 1#32
  let v603 : BitVec 32 := Scalar.muli v600 c1_i32_452
  let v604 : BitVec 32 := Scalar.addi c0_i32_453 v603
  v604.toNat
def k0_mult27 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_459 : BitVec 32 := 32#32
  let v614 : BitVec 32 := Scalar.muli v2 c32_i32_459
  v614
def k0_dev58 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_457 : BitVec 32 := 27#32
  let v612 : BitVec 32 := Scalar.addi v2 c27_i32_457
  let c32_i32_458 : BitVec 32 := 32#32
  let v613 : BitVec 32 := Scalar.remsi v612 c32_i32_458
  let c1_i32_462 : BitVec 32 := 1#32
  let v616 : BitVec 32 := Scalar.muli v613 c1_i32_462
  let v617 : BitVec 32 := Scalar.addi c0_i32_463 v616
  v617.toNat
def k0_mult28 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_469 : BitVec 32 := 32#32
  let v627 : BitVec 32 := Scalar.muli v2 c32_i32_469
  v627
def k0_dev59 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_467 : BitVec 32 := 28#32
  let v625 : BitVec 32 := Scalar.addi v2 c28_i32_467
  let c32_i32_468 : BitVec 32 := 32#32
  let v626 : BitVec 32 := Scalar.remsi v625 c32_i32_468
  let c1_i32_472 : BitVec 32 := 1#32
  let v629 : BitVec 32 := Scalar.muli v626 c1_i32_472
  let v630 : BitVec 32 := Scalar.addi c0_i32_473 v629
  v630.toNat
def k0_mult29 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_479 : BitVec 32 := 32#32
  let v640 : BitVec 32 := Scalar.muli v2 c32_i32_479
  v640
def k0_dev60 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_477 : BitVec 32 := 29#32
  let v638 : BitVec 32 := Scalar.addi v2 c29_i32_477
  let c32_i32_478 : BitVec 32 := 32#32
  let v639 : BitVec 32 := Scalar.remsi v638 c32_i32_478
  let c1_i32_482 : BitVec 32 := 1#32
  let v642 : BitVec 32 := Scalar.muli v639 c1_i32_482
  let v643 : BitVec 32 := Scalar.addi c0_i32_483 v642
  v643.toNat
def k0_mult30 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_489 : BitVec 32 := 32#32
  let v653 : BitVec 32 := Scalar.muli v2 c32_i32_489
  v653
def k0_dev61 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_487 : BitVec 32 := 30#32
  let v651 : BitVec 32 := Scalar.addi v2 c30_i32_487
  let c32_i32_488 : BitVec 32 := 32#32
  let v652 : BitVec 32 := Scalar.remsi v651 c32_i32_488
  let c1_i32_492 : BitVec 32 := 1#32
  let v655 : BitVec 32 := Scalar.muli v652 c1_i32_492
  let v656 : BitVec 32 := Scalar.addi c0_i32_493 v655
  v656.toNat
def k0_mult31 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_499 : BitVec 32 := 32#32
  let v666 : BitVec 32 := Scalar.muli v2 c32_i32_499
  v666
def k0_dev62 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_497 : BitVec 32 := 31#32
  let v664 : BitVec 32 := Scalar.addi v2 c31_i32_497
  let c32_i32_498 : BitVec 32 := 32#32
  let v665 : BitVec 32 := Scalar.remsi v664 c32_i32_498
  let c1_i32_502 : BitVec 32 := 1#32
  let v668 : BitVec 32 := Scalar.muli v665 c1_i32_502
  let v669 : BitVec 32 := Scalar.addi c0_i32_503 v668
  v669.toNat
def k0_mult32 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_507 : BitVec 32 := 32#32
  let v677 : BitVec 32 := Scalar.muli v2 c32_i32_507
  v677
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_509 : BitVec 32 := 0#32
  let c0_i32_510 : BitVec 32 := 0#32
  ![v2.toNat, 0, 0]
def k0_mult33 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_511 : BitVec 32 := 1#32
  let v682 : BitVec 32 := Scalar.subi v2 c1_i32_511
  let c32_i32_512 : BitVec 32 := 32#32
  let v683 : BitVec 32 := Scalar.addi v682 c32_i32_512
  let c32_i32_513 : BitVec 32 := 32#32
  let v684 : BitVec 32 := Scalar.remsi v683 c32_i32_513
  let c32_i32_514 : BitVec 32 := 32#32
  let v685 : BitVec 32 := Scalar.muli v684 c32_i32_514
  v685
def k0_off4 (d0 : Dev nD) (c1_i32_511 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v682 : BitVec 32 := Scalar.subi v2 c1_i32_511
  let c32_i32_512 : BitVec 32 := 32#32
  let v683 : BitVec 32 := Scalar.addi v682 c32_i32_512
  let c32_i32_513 : BitVec 32 := 32#32
  let v684 : BitVec 32 := Scalar.remsi v683 c32_i32_513
  let c32_i32_514 : BitVec 32 := 32#32
  let v685 : BitVec 32 := Scalar.muli v684 c32_i32_514
  let v686 : BitVec 32 := v685
  let c0_i32_520 : BitVec 32 := 0#32
  ![v686.toNat, 0]
def k0_mult34 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_523 : BitVec 32 := 2#32
  let v694 : BitVec 32 := Scalar.subi v2 c2_i32_523
  let c32_i32_524 : BitVec 32 := 32#32
  let v695 : BitVec 32 := Scalar.addi v694 c32_i32_524
  let c32_i32_525 : BitVec 32 := 32#32
  let v696 : BitVec 32 := Scalar.remsi v695 c32_i32_525
  let c32_i32_526 : BitVec 32 := 32#32
  let v697 : BitVec 32 := Scalar.muli v696 c32_i32_526
  v697
def k0_mult35 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_535 : BitVec 32 := 3#32
  let v706 : BitVec 32 := Scalar.subi v2 c3_i32_535
  let c32_i32_536 : BitVec 32 := 32#32
  let v707 : BitVec 32 := Scalar.addi v706 c32_i32_536
  let c32_i32_537 : BitVec 32 := 32#32
  let v708 : BitVec 32 := Scalar.remsi v707 c32_i32_537
  let c32_i32_538 : BitVec 32 := 32#32
  let v709 : BitVec 32 := Scalar.muli v708 c32_i32_538
  v709
def k0_mult36 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_547 : BitVec 32 := 4#32
  let v718 : BitVec 32 := Scalar.subi v2 c4_i32_547
  let c32_i32_548 : BitVec 32 := 32#32
  let v719 : BitVec 32 := Scalar.addi v718 c32_i32_548
  let c32_i32_549 : BitVec 32 := 32#32
  let v720 : BitVec 32 := Scalar.remsi v719 c32_i32_549
  let c32_i32_550 : BitVec 32 := 32#32
  let v721 : BitVec 32 := Scalar.muli v720 c32_i32_550
  v721
def k0_mult37 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_559 : BitVec 32 := 5#32
  let v730 : BitVec 32 := Scalar.subi v2 c5_i32_559
  let c32_i32_560 : BitVec 32 := 32#32
  let v731 : BitVec 32 := Scalar.addi v730 c32_i32_560
  let c32_i32_561 : BitVec 32 := 32#32
  let v732 : BitVec 32 := Scalar.remsi v731 c32_i32_561
  let c32_i32_562 : BitVec 32 := 32#32
  let v733 : BitVec 32 := Scalar.muli v732 c32_i32_562
  v733
def k0_mult38 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_571 : BitVec 32 := 6#32
  let v742 : BitVec 32 := Scalar.subi v2 c6_i32_571
  let c32_i32_572 : BitVec 32 := 32#32
  let v743 : BitVec 32 := Scalar.addi v742 c32_i32_572
  let c32_i32_573 : BitVec 32 := 32#32
  let v744 : BitVec 32 := Scalar.remsi v743 c32_i32_573
  let c32_i32_574 : BitVec 32 := 32#32
  let v745 : BitVec 32 := Scalar.muli v744 c32_i32_574
  v745
def k0_mult39 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_583 : BitVec 32 := 7#32
  let v754 : BitVec 32 := Scalar.subi v2 c7_i32_583
  let c32_i32_584 : BitVec 32 := 32#32
  let v755 : BitVec 32 := Scalar.addi v754 c32_i32_584
  let c32_i32_585 : BitVec 32 := 32#32
  let v756 : BitVec 32 := Scalar.remsi v755 c32_i32_585
  let c32_i32_586 : BitVec 32 := 32#32
  let v757 : BitVec 32 := Scalar.muli v756 c32_i32_586
  v757
def k0_mult40 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_595 : BitVec 32 := 8#32
  let v766 : BitVec 32 := Scalar.subi v2 c8_i32_595
  let c32_i32_596 : BitVec 32 := 32#32
  let v767 : BitVec 32 := Scalar.addi v766 c32_i32_596
  let c32_i32_597 : BitVec 32 := 32#32
  let v768 : BitVec 32 := Scalar.remsi v767 c32_i32_597
  let c32_i32_598 : BitVec 32 := 32#32
  let v769 : BitVec 32 := Scalar.muli v768 c32_i32_598
  v769
def k0_mult41 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_607 : BitVec 32 := 9#32
  let v778 : BitVec 32 := Scalar.subi v2 c9_i32_607
  let c32_i32_608 : BitVec 32 := 32#32
  let v779 : BitVec 32 := Scalar.addi v778 c32_i32_608
  let c32_i32_609 : BitVec 32 := 32#32
  let v780 : BitVec 32 := Scalar.remsi v779 c32_i32_609
  let c32_i32_610 : BitVec 32 := 32#32
  let v781 : BitVec 32 := Scalar.muli v780 c32_i32_610
  v781
def k0_mult42 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_619 : BitVec 32 := 10#32
  let v790 : BitVec 32 := Scalar.subi v2 c10_i32_619
  let c32_i32_620 : BitVec 32 := 32#32
  let v791 : BitVec 32 := Scalar.addi v790 c32_i32_620
  let c32_i32_621 : BitVec 32 := 32#32
  let v792 : BitVec 32 := Scalar.remsi v791 c32_i32_621
  let c32_i32_622 : BitVec 32 := 32#32
  let v793 : BitVec 32 := Scalar.muli v792 c32_i32_622
  v793
def k0_mult43 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_631 : BitVec 32 := 11#32
  let v802 : BitVec 32 := Scalar.subi v2 c11_i32_631
  let c32_i32_632 : BitVec 32 := 32#32
  let v803 : BitVec 32 := Scalar.addi v802 c32_i32_632
  let c32_i32_633 : BitVec 32 := 32#32
  let v804 : BitVec 32 := Scalar.remsi v803 c32_i32_633
  let c32_i32_634 : BitVec 32 := 32#32
  let v805 : BitVec 32 := Scalar.muli v804 c32_i32_634
  v805
def k0_mult44 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_643 : BitVec 32 := 12#32
  let v814 : BitVec 32 := Scalar.subi v2 c12_i32_643
  let c32_i32_644 : BitVec 32 := 32#32
  let v815 : BitVec 32 := Scalar.addi v814 c32_i32_644
  let c32_i32_645 : BitVec 32 := 32#32
  let v816 : BitVec 32 := Scalar.remsi v815 c32_i32_645
  let c32_i32_646 : BitVec 32 := 32#32
  let v817 : BitVec 32 := Scalar.muli v816 c32_i32_646
  v817
def k0_mult45 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_655 : BitVec 32 := 13#32
  let v826 : BitVec 32 := Scalar.subi v2 c13_i32_655
  let c32_i32_656 : BitVec 32 := 32#32
  let v827 : BitVec 32 := Scalar.addi v826 c32_i32_656
  let c32_i32_657 : BitVec 32 := 32#32
  let v828 : BitVec 32 := Scalar.remsi v827 c32_i32_657
  let c32_i32_658 : BitVec 32 := 32#32
  let v829 : BitVec 32 := Scalar.muli v828 c32_i32_658
  v829
def k0_mult46 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_667 : BitVec 32 := 14#32
  let v838 : BitVec 32 := Scalar.subi v2 c14_i32_667
  let c32_i32_668 : BitVec 32 := 32#32
  let v839 : BitVec 32 := Scalar.addi v838 c32_i32_668
  let c32_i32_669 : BitVec 32 := 32#32
  let v840 : BitVec 32 := Scalar.remsi v839 c32_i32_669
  let c32_i32_670 : BitVec 32 := 32#32
  let v841 : BitVec 32 := Scalar.muli v840 c32_i32_670
  v841
def k0_mult47 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_679 : BitVec 32 := 15#32
  let v850 : BitVec 32 := Scalar.subi v2 c15_i32_679
  let c32_i32_680 : BitVec 32 := 32#32
  let v851 : BitVec 32 := Scalar.addi v850 c32_i32_680
  let c32_i32_681 : BitVec 32 := 32#32
  let v852 : BitVec 32 := Scalar.remsi v851 c32_i32_681
  let c32_i32_682 : BitVec 32 := 32#32
  let v853 : BitVec 32 := Scalar.muli v852 c32_i32_682
  v853
def k0_mult48 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_691 : BitVec 32 := 16#32
  let v862 : BitVec 32 := Scalar.subi v2 c16_i32_691
  let c32_i32_692 : BitVec 32 := 32#32
  let v863 : BitVec 32 := Scalar.addi v862 c32_i32_692
  let c32_i32_693 : BitVec 32 := 32#32
  let v864 : BitVec 32 := Scalar.remsi v863 c32_i32_693
  let c32_i32_694 : BitVec 32 := 32#32
  let v865 : BitVec 32 := Scalar.muli v864 c32_i32_694
  v865
def k0_mult49 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_703 : BitVec 32 := 17#32
  let v874 : BitVec 32 := Scalar.subi v2 c17_i32_703
  let c32_i32_704 : BitVec 32 := 32#32
  let v875 : BitVec 32 := Scalar.addi v874 c32_i32_704
  let c32_i32_705 : BitVec 32 := 32#32
  let v876 : BitVec 32 := Scalar.remsi v875 c32_i32_705
  let c32_i32_706 : BitVec 32 := 32#32
  let v877 : BitVec 32 := Scalar.muli v876 c32_i32_706
  v877
def k0_mult50 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_715 : BitVec 32 := 18#32
  let v886 : BitVec 32 := Scalar.subi v2 c18_i32_715
  let c32_i32_716 : BitVec 32 := 32#32
  let v887 : BitVec 32 := Scalar.addi v886 c32_i32_716
  let c32_i32_717 : BitVec 32 := 32#32
  let v888 : BitVec 32 := Scalar.remsi v887 c32_i32_717
  let c32_i32_718 : BitVec 32 := 32#32
  let v889 : BitVec 32 := Scalar.muli v888 c32_i32_718
  v889
def k0_mult51 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_727 : BitVec 32 := 19#32
  let v898 : BitVec 32 := Scalar.subi v2 c19_i32_727
  let c32_i32_728 : BitVec 32 := 32#32
  let v899 : BitVec 32 := Scalar.addi v898 c32_i32_728
  let c32_i32_729 : BitVec 32 := 32#32
  let v900 : BitVec 32 := Scalar.remsi v899 c32_i32_729
  let c32_i32_730 : BitVec 32 := 32#32
  let v901 : BitVec 32 := Scalar.muli v900 c32_i32_730
  v901
def k0_mult52 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_739 : BitVec 32 := 20#32
  let v910 : BitVec 32 := Scalar.subi v2 c20_i32_739
  let c32_i32_740 : BitVec 32 := 32#32
  let v911 : BitVec 32 := Scalar.addi v910 c32_i32_740
  let c32_i32_741 : BitVec 32 := 32#32
  let v912 : BitVec 32 := Scalar.remsi v911 c32_i32_741
  let c32_i32_742 : BitVec 32 := 32#32
  let v913 : BitVec 32 := Scalar.muli v912 c32_i32_742
  v913
def k0_mult53 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_751 : BitVec 32 := 21#32
  let v922 : BitVec 32 := Scalar.subi v2 c21_i32_751
  let c32_i32_752 : BitVec 32 := 32#32
  let v923 : BitVec 32 := Scalar.addi v922 c32_i32_752
  let c32_i32_753 : BitVec 32 := 32#32
  let v924 : BitVec 32 := Scalar.remsi v923 c32_i32_753
  let c32_i32_754 : BitVec 32 := 32#32
  let v925 : BitVec 32 := Scalar.muli v924 c32_i32_754
  v925
def k0_mult54 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_763 : BitVec 32 := 22#32
  let v934 : BitVec 32 := Scalar.subi v2 c22_i32_763
  let c32_i32_764 : BitVec 32 := 32#32
  let v935 : BitVec 32 := Scalar.addi v934 c32_i32_764
  let c32_i32_765 : BitVec 32 := 32#32
  let v936 : BitVec 32 := Scalar.remsi v935 c32_i32_765
  let c32_i32_766 : BitVec 32 := 32#32
  let v937 : BitVec 32 := Scalar.muli v936 c32_i32_766
  v937
def k0_mult55 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_775 : BitVec 32 := 23#32
  let v946 : BitVec 32 := Scalar.subi v2 c23_i32_775
  let c32_i32_776 : BitVec 32 := 32#32
  let v947 : BitVec 32 := Scalar.addi v946 c32_i32_776
  let c32_i32_777 : BitVec 32 := 32#32
  let v948 : BitVec 32 := Scalar.remsi v947 c32_i32_777
  let c32_i32_778 : BitVec 32 := 32#32
  let v949 : BitVec 32 := Scalar.muli v948 c32_i32_778
  v949
def k0_mult56 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_787 : BitVec 32 := 24#32
  let v958 : BitVec 32 := Scalar.subi v2 c24_i32_787
  let c32_i32_788 : BitVec 32 := 32#32
  let v959 : BitVec 32 := Scalar.addi v958 c32_i32_788
  let c32_i32_789 : BitVec 32 := 32#32
  let v960 : BitVec 32 := Scalar.remsi v959 c32_i32_789
  let c32_i32_790 : BitVec 32 := 32#32
  let v961 : BitVec 32 := Scalar.muli v960 c32_i32_790
  v961
def k0_mult57 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_799 : BitVec 32 := 25#32
  let v970 : BitVec 32 := Scalar.subi v2 c25_i32_799
  let c32_i32_800 : BitVec 32 := 32#32
  let v971 : BitVec 32 := Scalar.addi v970 c32_i32_800
  let c32_i32_801 : BitVec 32 := 32#32
  let v972 : BitVec 32 := Scalar.remsi v971 c32_i32_801
  let c32_i32_802 : BitVec 32 := 32#32
  let v973 : BitVec 32 := Scalar.muli v972 c32_i32_802
  v973
def k0_mult58 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_811 : BitVec 32 := 26#32
  let v982 : BitVec 32 := Scalar.subi v2 c26_i32_811
  let c32_i32_812 : BitVec 32 := 32#32
  let v983 : BitVec 32 := Scalar.addi v982 c32_i32_812
  let c32_i32_813 : BitVec 32 := 32#32
  let v984 : BitVec 32 := Scalar.remsi v983 c32_i32_813
  let c32_i32_814 : BitVec 32 := 32#32
  let v985 : BitVec 32 := Scalar.muli v984 c32_i32_814
  v985
def k0_mult59 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_823 : BitVec 32 := 27#32
  let v994 : BitVec 32 := Scalar.subi v2 c27_i32_823
  let c32_i32_824 : BitVec 32 := 32#32
  let v995 : BitVec 32 := Scalar.addi v994 c32_i32_824
  let c32_i32_825 : BitVec 32 := 32#32
  let v996 : BitVec 32 := Scalar.remsi v995 c32_i32_825
  let c32_i32_826 : BitVec 32 := 32#32
  let v997 : BitVec 32 := Scalar.muli v996 c32_i32_826
  v997
def k0_mult60 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_835 : BitVec 32 := 28#32
  let v1006 : BitVec 32 := Scalar.subi v2 c28_i32_835
  let c32_i32_836 : BitVec 32 := 32#32
  let v1007 : BitVec 32 := Scalar.addi v1006 c32_i32_836
  let c32_i32_837 : BitVec 32 := 32#32
  let v1008 : BitVec 32 := Scalar.remsi v1007 c32_i32_837
  let c32_i32_838 : BitVec 32 := 32#32
  let v1009 : BitVec 32 := Scalar.muli v1008 c32_i32_838
  v1009
def k0_mult61 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_847 : BitVec 32 := 29#32
  let v1018 : BitVec 32 := Scalar.subi v2 c29_i32_847
  let c32_i32_848 : BitVec 32 := 32#32
  let v1019 : BitVec 32 := Scalar.addi v1018 c32_i32_848
  let c32_i32_849 : BitVec 32 := 32#32
  let v1020 : BitVec 32 := Scalar.remsi v1019 c32_i32_849
  let c32_i32_850 : BitVec 32 := 32#32
  let v1021 : BitVec 32 := Scalar.muli v1020 c32_i32_850
  v1021
def k0_mult62 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_859 : BitVec 32 := 30#32
  let v1030 : BitVec 32 := Scalar.subi v2 c30_i32_859
  let c32_i32_860 : BitVec 32 := 32#32
  let v1031 : BitVec 32 := Scalar.addi v1030 c32_i32_860
  let c32_i32_861 : BitVec 32 := 32#32
  let v1032 : BitVec 32 := Scalar.remsi v1031 c32_i32_861
  let c32_i32_862 : BitVec 32 := 32#32
  let v1033 : BitVec 32 := Scalar.muli v1032 c32_i32_862
  v1033
def k0_mult63 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_871 : BitVec 32 := 31#32
  let v1042 : BitVec 32 := Scalar.subi v2 c31_i32_871
  let c32_i32_872 : BitVec 32 := 32#32
  let v1043 : BitVec 32 := Scalar.addi v1042 c32_i32_872
  let c32_i32_873 : BitVec 32 := 32#32
  let v1044 : BitVec 32 := Scalar.remsi v1043 c32_i32_873
  let c32_i32_874 : BitVec 32 := 32#32
  let v1045 : BitVec 32 := Scalar.muli v1044 c32_i32_874
  v1045
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Program.lean ====
/-
# The kernel's body, read as five loops

The kernel is printed fully unrolled: 31 signals, 32 stores, 31 remote copies, 31 waits for what arrives,
31 waits for what was sent. Each run of equal steps is one step carried out for every hop distance, and this
module says so: `body_eq` states that the body IS the program `listed`, in which every run of steps is a
walk over a list and each step is written once. Hop `r : Fin 31` stands for the distance `r + 1` around the
mesh of 32 devices.
-/
module

public import proofs.«01_k».proof.Proof.Gen.KernelIdeal
public import proofs.«01_k».proof.Proof.Gen.KernelIdeal.Skeleton

@[expose] public section

noncomputable section

namespace Cert.AllToAll

open Cert.KernelIdeal Cert.KernelIdeal.Gen
open Idealize.ShloMosaic
open Idealize.SL.Sem

variable {F : FTy → Type} [FloatOps F]

/-- The programs one device's core runs. -/
abbrev Code (F : FTy → Type) : Type → Type 1 := Prog (TpuEff nD τ sig (Elt F) Λ₀ .tc)

/-- Carry out `step` for each member of a list in turn, then go on with `k`. -/
def walk {A β : Type} (step : A → Code F PUnit) : List A → Code F β → Code F β
  | [], k => k
  | a :: l, k => (step a).bind fun _ => walk step l k

/-- The hops in the order the kernel takes them: hop `r` is the distance `r + 1`. -/
abbrev hops : List (Fin 31) := List.finRange 31
/-- The column blocks in the order the kernel stores them. -/
abbrev blocks : List (Fin 32) := List.finRange 32

/-- A hop's distance as the word the kernel computes with. -/
abbrev hopWord (r : Fin 31) : BitVec 32 := BitVec.ofNat 32 (1 + r.val)

/-- The device at distance `k` after `d`, as the kernel's integer operations compute its number. -/
def peerNum (d : Dev nD) (k : BitVec 32) : Nat :=
  let v0 : BitVec 32 := Dev.word d
  let v1 : BitVec 32 := Scalar.divsi v0 1#32
  let v2 : BitVec 32 := Scalar.remsi v1 32#32
  let v3 : BitVec 32 := Scalar.addi v2 k
  let v4 : BitVec 32 := Scalar.remsi v3 32#32
  let v5 : BitVec 32 := Scalar.muli v4 1#32
  let v6 : BitVec 32 := Scalar.addi 0#32 v5
  v6.toNat

/-- That number in closed form: the sum of the two, around the mesh. -/
theorem peerNum_eq : ∀ (d : Dev nD) (r : Fin 31), peerNum d (hopWord r) = (d.val + r.val + 1) % 32 := by decide +kernel

/-- The device a hop reaches is one of the 32. -/
theorem peerNum_lt (d : Dev nD) (r : Fin 31) : peerNum d (hopWord r) < nD := by
  rw [peerNum_eq]; exact Nat.mod_lt _ (by decide)

/-- The device at hop `r` after `d`, by the kernel's operations. -/
abbrev peer (d : Dev nD) (r : Fin 31) : Dev nD := ⟨peerNum d (hopWord r), peerNum_lt d r⟩

/-! ## The buffers and semaphores -/

/-- The staged block of `x`, -/
abbrev xM : Memref sig .tc .vmem S32x1024 .f32 := Memref.whole cc0_stg0_0
/-- the staged `w`, -/
abbrev wM : Memref sig .tc .vmem S1024x1024 .f32 := Memref.whole cc0_stg1_0
/-- the staged result, -/
abbrev oM : Memref sig .tc .vmem S1024x32 .f32 := Memref.whole cc0_stg2_0
/-- and the send buffer. -/
abbrev bM : Memref sig .tc .vmem S32x32x32 .f32 := Memref.whole cc0_scratch0

/-- The barrier semaphore. -/
abbrev barS : Sem sig := (SemArray.scalar (sig.barrier 0 rfl) : Sems sig S_).sem
/-- The semaphore of the local copy. -/
abbrev locS : DmaSem sig := cc0_scratch3.sem

/-- Hop `r`'s semaphore lies inside its array of 32. -/
theorem inbSem (r : Fin 31) : ∀ a, (![1 + r.val] : Fin 1 → Nat) a + S1.size a ≤ S32.size a := by
  intro a; have := r.isLt; fin_cases a; show 1 + r.val + 1 ≤ 32; omega

/-- The semaphore on which hop `r`'s copy reports that it has been sent. -/
abbrev sendS (r : Fin 31) : DmaSem sig :=
  ((cc0_scratch1.slice (Rect.unit (s := S32) ![1 + r.val] S1.size (inbSem r))).squeeze S_ squeezes_S1_S_).sem
/-- The semaphore on which hop `r`'s block arrives. -/
abbrev recvS (r : Fin 31) : DmaSem sig :=
  ((cc0_scratch2.slice (Rect.unit (s := S32) ![1 + r.val] S1.size (inbSem r))).squeeze S_ squeezes_S1_S_).sem

/-- 32 rows of the staged result, from row offset `off`. -/
abbrev rowsAt (off : Fin 2 → Nat) (h : ∀ a, off a + S32x32.size a ≤ S1024x32.size a) : Memref sig .tc .vmem S32x32 .f32 :=
  oM.slice (Rect.unit (s := S1024x32) off S32x32.size h) (fun _ => rfl)
/-- One block of the send buffer, from offset `off`, as a 32 by 32 matrix. -/
abbrev blockAt (off : Fin 3 → Nat) (h : ∀ a, off a + S1x32x32.size a ≤ S32x32x32.size a) : Memref sig .tc .vmem S32x32 .f32 :=
  (bM.slice (Rect.unit (s := S32x32x32) off S1x32x32.size h) (fun _ => rfl)).squeeze S32x32 squeezes_S1x32x32_S32x32

/-! ## One step of each loop -/

/-- Tell the device at hop `r` that this one has entered. -/
def signalStep (d : Dev nD) (r : Fin 31) : Code F PUnit := semSignalWord (peer d r) barS 1#32

/-- Slot `t` lies inside the send buffer. -/
theorem inbBlk (t : Fin 32) : ∀ a, (![t.val, 0, 0] : Fin 3 → Nat) a + S1x32x32.size a ≤ S32x32x32.size a := by
  intro a; have := t.isLt
  fin_cases a
  · show t.val + 1 ≤ 32; omega
  · show 0 + 32 ≤ 32; omega
  · show 0 + 32 ≤ 32; omega

/-- Column block `t` lies inside the product. -/
theorem slicesCol (t : Fin 32) : S32x1024.Slices ![0, 32 * t.val] S32x32 :=
  (by decide : ∀ t : Fin 32, S32x1024.Slices ![0, 32 * t.val] S32x32) t

/-- The rectangle of the send buffer that column block `t` is stored to. -/
abbrev blkRect (t : Fin 32) : Rect S32x32x32 := Rect.unit (s := S32x32x32) ![t.val, 0, 0] S1x32x32.size (inbBlk t)

/-- Column block `t` of a 32 by 1024 matrix, as one block of the send buffer. -/
def colBlock (y : FVec F S32x1024 .f32) (t : Fin 32) : FVec F S1x32x32 .f32 :=
  shapeCast S1x32x32 (extractStridedSlice S32x32 ![0, 32 * t.val] y (slicesCol t)) shapeCasts_S32x32_S1x32x32

/-- Store column block `t` of `y` to the send buffer (the kernel first reads what was there, and drops it). -/
def storeStep (y : FVec F S32x1024 .f32) (t : Fin 32) : Code F PUnit :=
  (Prog.lift (.load bM (blkRect t).toLoadRect (View.loadsAt_vmem h_S1x32x32))).bind fun (_ : Vec F S1x32x32 .f32) =>
    Prog.lift (.store bM (blkRect t) (colBlock y t) Finset.univ (View.stores_vmem_bits_univ h_S1x32x32 rfl) (.inl rfl))

/-- Start the copy of one block of the send buffer into this device's rows of the result at hop `r`. -/
def sendStep (d : Dev nD) (r : Fin 31) : Code F PUnit :=
  Prog.lift (.enqueueDma (blockAt (k0_off2 d (hopWord r)) (k0_off2_inb d r))
    (.remote (Dev.tc (peer d r)) (rowsAt (k0_off1 d) (k0_off1_inb d)) (.dma (sendS r))) (.dma (recvS r))
    ((View.wordExact_bits rfl).reshape _ _) (View.wordExact_bits rfl) ⟨⟨rfl, Or.inl rfl⟩, trivial⟩)

/-- Start the copy of this device's own block into its own rows. -/
def localStep (d : Dev nD) : Code F PUnit :=
  Prog.lift (.enqueueDma (blockAt (k0_off3 d) (k0_off3_inb d)) (.here (rowsAt (k0_off1 d) (k0_off1_inb d))) (.dma locS)
    ((View.wordExact_bits rfl).reshape _ _) (View.wordExact_bits rfl) ⟨Or.inl rfl, trivial⟩)

/-- Wait for the block that arrives over hop `r`. -/
def recvStep (d : Dev nD) (r : Fin 31) : Code F PUnit :=
  Prog.lift (.waitDma2 (recvS r) (blockAt ![0, 0, 0] inb_S32x32x32_S1x32x32_0_0_0) (rowsAt (k0_off4 d (hopWord r)) (k0_off4_inb d r))
    ((View.wordExact_bits rfl).reshape _ _) (View.wordExact_bits rfl))

/-- Wait for the local copy. -/
def localWaitStep (d : Dev nD) : Code F PUnit :=
  Prog.lift (.waitDma2 locS (blockAt (k0_off3 d) (k0_off3_inb d)) (rowsAt (k0_off1 d) (k0_off1_inb d))
    ((View.wordExact_bits rfl).reshape _ _) (View.wordExact_bits rfl))

/-- Wait until the copy sent over hop `r` has been read out of the send buffer. -/
def sentStep (d : Dev nD) (r : Fin 31) : Code F PUnit :=
  Prog.lift (.waitDma2 (sendS r) (rowsAt (k0_off1 d) (k0_off1_inb d)) (blockAt (k0_off2 d (hopWord r)) (k0_off2_inb d r))
    (View.wordExact_bits rfl) ((View.wordExact_bits rfl).reshape _ _))

/-! ## The body as loops -/

/-- The body after the product is known: store the column blocks, pass the barrier, send, receive. -/
def afterProduct (d : Dev nD) (y : FVec F S32x1024 .f32) : Code F PUnit :=
  walk (storeStep y) blocks <|
  (semWaitWord barS 31#32).bind fun _ =>
  walk (sendStep d) hops <|
  (localStep d).bind fun _ =>
  walk (recvStep d) hops <|
  (localWaitStep d).bind fun _ =>
  walk (sentStep d) hops <|
  .ret ⟨⟩

/-- The body: signal every other device, read the two operands, form the activated product, then `afterProduct`. -/
def listed : Code F PUnit :=
  (Prog.lift .deviceId).bind fun (d : Dev nD) =>
  walk (signalStep d) hops <|
  (Prog.lift (.load xM (Rect.unit (s := S32x1024) ![0, 0] S32x1024.size inb_S32x1024_S32x1024_0_0).toLoadRect (View.loadsAt_vmem h_S32x1024))).bind
    fun (v : Vec F S32x1024 .f32) =>
  (Prog.lift (.load wM (Rect.unit (s := S1024x1024) ![0, 0] S1024x1024.size inb_S1024x1024_S1024x1024_0_0).toLoadRect (View.loadsAt_vmem h_S1024x1024))).bind
    fun (w : Vec F S1024x1024 .f32) =>
  afterProduct d (k0_pay1 v w)

set_option maxRecDepth 65536 in
set_option maxHeartbeats 4000000 in
/-- The kernel's body is the five loops. -/
theorem body_eq :
    cc0_body (F := F) xM (Memref.isWhole_whole _) wM (Memref.isWhole_whole _) oM (Memref.isWhole_whole _) bM (Memref.isWhole_whole _)
      cc0_scratch1 cc0_scratch2 cc0_scratch3 = listed := rfl

end Cert.AllToAll

end
-- ==== Proof.Mesh.lean ====
/-
# The mesh, the blocks and their contents

Devices: hop `r` leads from device `c` to `nxt c r`, and back to `c` from `prv c r`. Blocks: the send buffer is 32
blocks, one for each target device; the staged result is 32 groups of 32 rows, one for each source device. Contents:
what the send buffer holds once every column block of a device's product is stored (`sbufOf`), what the result holds
once every device's block has arrived (`outOf`), and the two facts that tie them: a store leaves its block as
`sbufOf` says, and a copy leaves its rows as `outOf` says.
-/
module

public import proofs.«01_k».proof.Proof.Program
public import Idealize.ShloMosaic.Lib.Ring
public import Idealize.ShloMosaic.Lib.ValueLayout
public import Idealize.ShloMosaic.Lib.Pipeline.ValueKit.Geometry

@[expose] public section

noncomputable section

namespace Cert.AllToAll

open Cert.KernelIdeal Cert.KernelIdeal.Gen
open Idealize.ShloMosaic
open Idealize.ShloMosaic.TcCoe
open Idealize.ShloMosaic.ValueIdx
open Idealize.SL.Sem

variable {F : FTy → Type} [FloatOps F]

/-! ## Hops -/

set_option backward.proofsInPublic true in
/-- The device hop `r` leads to. -/
def nxt (c : Dev nD) (r : Fin 31) : Dev nD := ⟨(c.val + r.val + 1) % 32, Nat.mod_lt _ (by decide)⟩
set_option backward.proofsInPublic true in
/-- The device hop `r` comes from. -/
def prv (c : Dev nD) (r : Fin 31) : Dev nD := ⟨(c.val + 31 - r.val) % 32, Nat.mod_lt _ (by decide)⟩

/-- The device the program addresses at hop `r` is `nxt c r`. -/
theorem peer_eq (c : Dev nD) (r : Fin 31) : peer c r = nxt c r := Fin.ext (peerNum_eq c r)

/-- Forward after back is where one was, -/
theorem nxt_prv (c : Dev nD) (r : Fin 31) : nxt (prv c r) r = c := by
  have := c.isLt; have := r.isLt; apply Fin.ext
  show ((c.val + 31 - r.val) % 32 + r.val + 1) % 32 = c.val
  have : c.val < 32 := c.isLt
  omega
/-- and back after forward. -/
theorem prv_nxt (c : Dev nD) (r : Fin 31) : prv (nxt c r) r = c := by
  have := r.isLt; apply Fin.ext
  show ((c.val + r.val + 1) % 32 + 31 - r.val) % 32 = c.val
  have : c.val < 32 := c.isLt
  omega
/-- The device at hop `r` has this one at the reversed hop. -/
theorem nxt_rev (c : Dev nD) (r : Fin 31) : nxt (nxt c r) r.rev = c := by
  have := r.isLt; apply Fin.ext
  show ((c.val + r.val + 1) % 32 + r.rev.val + 1) % 32 = c.val
  have : c.val < 32 := c.isLt
  rw [Fin.val_rev]
  omega
/-- Different hops reach different devices, -/
theorem nxt_inj (c : Dev nD) : Function.Injective (nxt c) := by
  intro r r' h
  have h' : (c.val + r.val + 1) % 32 = (c.val + r'.val + 1) % 32 := congrArg Fin.val h
  have : c.val < 32 := c.isLt
  have := r.isLt; have := r'.isLt
  apply Fin.ext; omega
/-- none of them the device itself. -/
theorem nxt_ne (c : Dev nD) (r : Fin 31) : c ≠ nxt c r := by
  intro h
  have h' : c.val = (c.val + r.val + 1) % 32 := congrArg Fin.val h
  have : c.val < 32 := c.isLt
  have := r.isLt
  omega
/-- Every other device is at some hop. -/
theorem exists_hop {c s : Dev nD} (h : s ≠ c) : ∃ r, nxt c r = s := by
  have hc : c.val < 32 := c.isLt
  have hs : s.val < 32 := s.isLt
  have hne : s.val ≠ c.val := fun e => h (Fin.ext e)
  refine ⟨⟨(s.val + 31 - c.val) % 32, by omega⟩, Fin.ext ?_⟩
  show (c.val + (s.val + 31 - c.val) % 32 + 1) % 32 = s.val
  omega

/-- Around the mesh by hop `r`. -/
def turn (r : Fin 31) : Dev nD ≃ Dev nD := ⟨(nxt · r), (prv · r), (prv_nxt · r), (nxt_prv · r)⟩

/-- The device and those its hops reach are all the devices, -/
theorem devices_nxt (c : Dev nD) : (Finset.univ : Finset (Dev nD)) = (c :: hops.map (nxt c)).toFinset := by
  ext s
  simp only [Finset.mem_univ, List.toFinset_cons, Finset.mem_insert, List.mem_toFinset, List.mem_map, true_iff]
  by_cases h : s = c
  · exact .inl h
  · obtain ⟨r, hr⟩ := exists_hop h; exact .inr ⟨r, List.mem_finRange r, hr⟩
/-- and none listed twice. -/
theorem devices_nxt_nodup (c : Dev nD) : (c :: hops.map (nxt c)).Nodup := by
  refine List.nodup_cons.mpr ⟨fun h => ?_, (List.nodup_finRange 31).map (nxt_inj c)⟩
  obtain ⟨r, -, hr⟩ := List.mem_map.mp h
  exact nxt_ne c r hr.symm
/-- Different hops back come from different devices. -/
theorem prv_inj (c : Dev nD) : Function.Injective (prv c) := by
  intro r r' h
  have h' : (c.val + 31 - r.val) % 32 = (c.val + 31 - r'.val) % 32 := congrArg Fin.val h
  have : c.val < 32 := c.isLt
  have := r.isLt; have := r'.isLt
  apply Fin.ext; omega
/-- The device and those its hops come from are all the devices, -/
theorem devices_prv (c : Dev nD) : (Finset.univ : Finset (Dev nD)) = (c :: hops.map (prv c)).toFinset := by
  ext s
  simp only [Finset.mem_univ, List.toFinset_cons, Finset.mem_insert, List.mem_toFinset, List.mem_map, true_iff]
  by_cases h : s = c
  · exact .inl h
  · obtain ⟨r, hr⟩ := exists_hop (c := s) (s := c) (fun e => h e.symm)
    exact .inr ⟨r, List.mem_finRange r, by rw [← hr, prv_nxt]⟩
/-- each listed once. -/
theorem devices_prv_nodup (c : Dev nD) : (c :: hops.map (prv c)).Nodup := by
  refine List.nodup_cons.mpr ⟨fun h => ?_, (List.nodup_finRange 31).map (prv_inj c)⟩
  obtain ⟨r, -, hr⟩ := List.mem_map.mp h
  exact nxt_ne (prv c r) r (by rw [nxt_prv, hr])

/-! ## The blocks -/

/-- Device `s`'s rows lie inside the result. -/
theorem rowInb (s : Dev nD) : ∀ a, (![32 * s.val, 0] : Fin 2 → Nat) a + S32x32.size a ≤ S1024x32.size a := by
  have hs : s.val < 32 := s.isLt
  intro a; fin_cases a
  · show 32 * s.val + 32 ≤ 1024; omega
  · show 0 + 32 ≤ 32; omega
/-- Slot `t` lies inside the send buffer. -/
theorem slotInb (t : Dev nD) : ∀ a, (![t.val, 0, 0] : Fin 3 → Nat) a + S1x32x32.size a ≤ S32x32x32.size a := inbBlk t

/-- The rows of the result that device `s` fills. -/
abbrev rowM (s : Dev nD) : Memref sig .tc .vmem S32x32 .f32 := rowsAt ![32 * s.val, 0] (rowInb s)
/-- The block of the send buffer meant for device `t`. -/
abbrev slotM (t : Dev nD) : Memref sig .tc .vmem S32x32 .f32 := blockAt ![t.val, 0, 0] (slotInb t)

/-- Rows at equal offsets are the same view, -/
theorem rowsAt_congr {off off' : Fin 2 → Nat} (e : off = off') (h : ∀ a, off a + S32x32.size a ≤ S1024x32.size a)
    (h' : ∀ a, off' a + S32x32.size a ≤ S1024x32.size a) : rowsAt off h = rowsAt off' h' := by subst e; rfl
/-- and so are slots at equal offsets. -/
theorem blockAt_congr {off off' : Fin 3 → Nat} (e : off = off') (h : ∀ a, off a + S1x32x32.size a ≤ S32x32x32.size a)
    (h' : ∀ a, off' a + S1x32x32.size a ≤ S32x32x32.size a) : blockAt off h = blockAt off' h' := by subst e; rfl

/-- The kernel's four addresses in those words: the rows a device's copies fill are its own, -/
theorem ownRows_eq (d : Dev nD) : rowsAt (k0_off1 d) (k0_off1_inb d) = rowM d := rowsAt_congr (k0_off1_eq d) _ _
/-- the slot a hop sends is that of the device it reaches, -/
theorem sendBlock_eq (d : Dev nD) (r : Fin 31) : blockAt (k0_off2 d (hopWord r)) (k0_off2_inb d r) = slotM (nxt d r) :=
  blockAt_congr (k0_off2_eq d r) _ _
/-- the slot copied locally is the device's own, -/
theorem ownBlock_eq (d : Dev nD) : blockAt (k0_off3 d) (k0_off3_inb d) = slotM d := blockAt_congr (k0_off3_eq d) _ _
/-- and the rows a hop waits for are those of the device `r` hops back. -/
theorem recvRows_eq (d : Dev nD) (r : Fin 31) : rowsAt (k0_off4 d (hopWord r)) (k0_off4_inb d r) = rowM (prv d r) :=
  rowsAt_congr ((k0_off4_eq d r).trans (by
    show (![32 * ((d.val + 31 - r.val) % 32), 0] : Fin 2 → Nat) = ![32 * ((d.val + 31 - r.val) % 32), 0]; rfl)) _ _

/-- The elements of device `s`'s rows. -/
abbrev rowSet (s : Dev nD) : Finset S1024x32.Idx := (rowM s).view.set
/-- The elements of slot `t`. -/
abbrev slotSet (t : Dev nD) : Finset S32x32x32.Idx := (slotM t).view.set

/-- The elements of device `s`'s rows form a rectangle, -/
theorem rowSet_eq (s : Dev nD) : rowSet s = (Rect.unit (s := S1024x32) ![32 * s.val, 0] S32x32.size (rowInb s)).set :=
  View.set_slice_whole _ _
/-- and so do those of a slot. -/
theorem slotSet_eq (t : Dev nD) : slotSet t = (Rect.unit (s := S32x32x32) ![t.val, 0, 0] S1x32x32.size (slotInb t)).set :=
  (View.set_reshape _ _).trans (View.set_slice_whole _ _)

/-- A store of block `t` and a load of it touch that block's elements. -/
theorem blkSet_eq (t : Dev nD) : (bM.access (blkRect t) : View sig .tc _ _ _).set = slotSet t :=
  (View.set_slice_whole cc0_scratch0 (blkRect t)).trans (slotSet_eq t).symm

/-- Different devices' rows are disjoint, -/
theorem rows_disjoint (s s' : Dev nD) (h : s ≠ s') : Disjoint (rowSet s) (rowSet s') := by
  rw [rowSet_eq, rowSet_eq]
  exact Ring.lead_disjoint (s := S1024x32) (0 : Fin 2) 32 (fun b : Fin 32 => ![32 * b.val, 0]) S32x32.size rowInb
    (fun _ => rfl) rfl s s' h
/-- and every element of the result is in some device's rows. -/
theorem rows_cover : Finset.univ.biUnion rowSet = Finset.univ := by
  rw [show rowSet = fun s : Dev nD => (Rect.unit (s := S1024x32) ![32 * s.val, 0] S32x32.size (rowInb s)).set from funext rowSet_eq]
  exact Ring.lead_cover (s := S1024x32) (0 : Fin 2) 32 (fun b : Fin 32 => ![32 * b.val, 0]) S32x32.size rowInb
    (fun _ => rfl) (fun b a h => by fin_cases a <;> first | rfl | exact absurd rfl h) rfl
    (fun a h => by fin_cases a <;> first | rfl | exact absurd rfl h) rfl
/-- Different slots are disjoint, -/
theorem slots_disjoint (s s' : Dev nD) (h : s ≠ s') : Disjoint (slotSet s) (slotSet s') := by
  rw [slotSet_eq, slotSet_eq]
  exact Ring.lead_disjoint (s := S32x32x32) (0 : Fin 3) 1 (fun b : Fin 32 => ![b.val, 0, 0]) S1x32x32.size slotInb
    (fun b => (Nat.one_mul b.val).symm) rfl s s' h
/-- and every element of the send buffer is in some slot. -/
theorem slots_cover : Finset.univ.biUnion slotSet = Finset.univ := by
  rw [show slotSet = fun s : Dev nD => (Rect.unit (s := S32x32x32) ![s.val, 0, 0] S1x32x32.size (slotInb s)).set from funext slotSet_eq]
  exact Ring.lead_cover (s := S32x32x32) (0 : Fin 3) 1 (fun b : Fin 32 => ![b.val, 0, 0]) S1x32x32.size slotInb
    (fun b => (Nat.one_mul b.val).symm) (fun b a h => by fin_cases a <;> first | rfl | exact absurd rfl h) rfl
    (fun a h => by fin_cases a <;> first | rfl | exact absurd rfl h) rfl

/-! ## Contents -/

/-- An index by block and place in the block is below 1024. -/
theorem col_lt {a b : Nat} (ha : a < 32) (hb : b < 32) : 32 * a + b < 1024 := by omega

/-- The send buffer once all column blocks of `y` are stored: block `t` is columns `32 t` to `32 t + 31` of `y`. -/
def sbufOf (y : FVec F S32x1024 .f32) : FVec F S32x32x32 .f32 :=
  fun j => y (ix2 (n0 := 32) (n1 := 1024) (j 1) ⟨32 * (j 0).val + (j 2).val, col_lt (j 0).isLt (j 2).isLt⟩)

/-- The result on device `c` once all blocks are in, `ys s` being device `s`'s product: rows `32 s` to `32 s + 31` are
    columns `32 c` to `32 c + 31` of `ys s`. -/
def outOf (ys : Dev nD → FVec F S32x1024 .f32) (c : Dev nD) : FVec F S1024x32 .f32 :=
  fun i => ys ⟨(i 0).val / 32, Nat.div_lt_of_lt_mul (i 0).isLt⟩
    (ix2 (n0 := 32) (n1 := 1024) ⟨(i 0).val % 32, Nat.mod_lt _ (by decide)⟩ ⟨32 * c.val + (i 1).val, col_lt c.isLt (i 1).isLt⟩)

omit [FloatOps F] in
/-- A column block, element by element. -/
theorem colBlock_apply (y : FVec F S32x1024 .f32) (t : Fin 32) (u : Fin 1) (i j : Fin 32) :
    colBlock y t (ix3 u i j) = y (ix2 i ⟨32 * t.val + j.val, col_lt t.isLt j.isLt⟩) := by
  unfold colBlock
  rw [shapeCast_ab_1ab_apply, slice2_axis1_eq]

omit [FloatOps F] in
/-- A store of column block `t` leaves block `t` as `sbufOf` says. -/
theorem stored_eq (y : FVec F S32x1024 .f32) (t : Dev nD) (f : (cc0_scratch0 : Ref sig .tc).ty.Contents (Elt F)) :
    ∀ i ∈ slotSet t, (bM.access (blkRect t) : View sig .tc _ _ _).write (Elt F) f (colBlock y t) Finset.univ i = sbufOf y i := by
  intro i hi
  rw [← blkSet_eq] at hi
  obtain ⟨x, -, rfl⟩ := Finset.mem_map.mp hi
  rw [View.write_emb_of_mem _ _ (Finset.mem_univ x)]
  obtain ⟨u, a, b, rfl⟩ : ∃ (u : Fin 1) (a b : Fin 32), x = ix3 u a b := ⟨x 0, x 1, x 2, eq_ix3 x⟩
  refine (colBlock_apply y t u a b).trans ?_
  unfold sbufOf
  have e (k) := ValueKit.view_emb_slice_whole_unit_val cc0_scratch0 ![t.val, 0, 0] S1x32x32.size (inbBlk t) (ix3 u a b) k
  have hu : u.val = 0 := by omega
  refine congrArg y (congrArg₂ ix2 (Fin.ext ?_) (Fin.ext ?_))
  · exact ((e 1).trans (Nat.zero_add _)).symm
  · refine (congrArg₂ (fun p q => 32 * p + q) ((e 0).trans ?_) ((e 2).trans (Nat.zero_add _))).symm
    show t.val + u.val = t.val
    omega

omit [FloatOps F] in
/-- A copy of device `s`'s block for `c` leaves the rows `s` fills on `c` as `outOf` says. -/
theorem landed_eq (ys : Dev nD → FVec F S32x1024 .f32) (c s : Dev nD) (f : (cc0_stg2_0 : Ref sig .tc).ty.Contents (Elt F)) :
    ∀ i ∈ rowSet s, (rowM s).view.write (Elt F) f ((slotM c).view.read (Elt F) (sbufOf (ys s))) Finset.univ i = outOf ys c i := by
  intro i hi
  obtain ⟨x, -, rfl⟩ := Finset.mem_map.mp hi
  rw [View.write_emb_of_mem _ _ (Finset.mem_univ x)]
  obtain ⟨a, b, rfl⟩ : ∃ (a b : Fin 32), x = ix2 a b := ⟨x 0, x 1, eq_ix2 x⟩
  have e (k) := ValueKit.view_emb_slice_whole_unit_val cc0_stg2_0 ![32 * s.val, 0] S32x32.size (rowInb s) (ix2 a b) k
  have e0 : ((rowM s).view.emb (ix2 a b) 0).val = 32 * s.val + a.val := e 0
  have e1 : ((rowM s).view.emb (ix2 a b) 1).val = b.val := (e 1).trans (Nat.zero_add _)
  have hread : (slotM c).view.read (Elt F) (sbufOf (ys s)) (ix2 a b) = ys s (ix2 a ⟨32 * c.val + b.val, col_lt c.isLt b.isLt⟩) := by
    have hx : (slotM c).view.emb (ix2 a b) = (View.slice (View.whole cc0_scratch0) (Rect.unit (s := S32x32x32) ![c.val, 0, 0] S1x32x32.size (slotInb c))).emb (ix3 (0 : Fin 1) a b) :=
      congrArg (View.slice (View.whole cc0_scratch0) (Rect.unit (s := S32x32x32) ![c.val, 0, 0] S1x32x32.size (slotInb c))).emb (reshapeEquiv_ix2_1ab _ a b)
    have g (k) := ValueKit.view_emb_slice_whole_unit_val cc0_scratch0 ![c.val, 0, 0] S1x32x32.size (slotInb c) (ix3 (0 : Fin 1) a b) k
    show sbufOf (ys s) ((slotM c).view.emb (ix2 a b)) = _
    rw [hx]
    unfold sbufOf
    refine congrArg (ys s) (congrArg₂ ix2 (Fin.ext ?_) (Fin.ext ?_))
    · exact (g 1).trans (Nat.zero_add _)
    · exact congrArg₂ (fun p q => 32 * p + q) ((g 0).trans (Nat.add_zero _)) ((g 2).trans (Nat.zero_add _))
  refine hread.trans ?_
  unfold outOf
  have ha := a.isLt
  have hs : (⟨((rowM s).view.emb (ix2 a b) 0).val / 32, Nat.div_lt_of_lt_mul ((rowM s).view.emb (ix2 a b) 0).isLt⟩ : Dev nD) = s := by
    apply Fin.ext; show ((rowM s).view.emb (ix2 a b) 0).val / 32 = s.val; rw [e0]; omega
  rw [hs]
  refine congrArg (ys s) (congrArg₂ ix2 (Fin.ext ?_) (Fin.ext ?_))
  · show a.val = ((rowM s).view.emb (ix2 a b) 0).val % 32; rw [e0]; omega
  · show 32 * c.val + b.val = 32 * c.val + ((rowM s).view.emb (ix2 a b) 1).val; rw [e1]

end Cert.AllToAll

end
-- ==== Proof.Protocol.lean ====
/-
# The protocol: who waits, who pays, what each landing hands over

Every device has 64 semaphores in play (`Cell`): the barrier, the local copy's semaphore, and for each hop `r` the
semaphore of the copy it sends over that hop and the semaphore of the copy it receives over that hop. Each is used
once:

* barrier of `c`: 31 units, one from each other device. The device at hop `r` pays duty `r`, and hands `c` its own
  32 result rows that `c` is to fill.
* send semaphore `r` of `c`: the copy over hop `r` pays it once the block is read, and hands the block back.
* receive semaphore `r` of `c`: the device `prv c r` pays it by its copy, and hands over the rows it filled, at their
  final contents.
* local semaphore of `c`: the local copy pays it, and hands over the device's own rows at their final contents and
  the block they were copied from.

A device waits on its barrier while it still owes the 31 receive semaphores of the others, so barriers are on level 1
and receive semaphores on level 2; when it waits for copies it owes nothing.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging pipeline's and the mesh's, whose duties are numbered by hops -/

/-- The ghost state of the rounds, -/
abbrev UB : Type := URounds (GSem nD τ sig) (Fin 31)
/-- beside the staging pipeline's. -/
abbrev UU : Type := UR sig nD τ × UB

local notation "𝕄" => MT nD τ sig Unit (Elt F) ℕ UU ℕ

/-- Where the pipeline's part sits, -/
abbrev EP : Emb (UR sig nD τ) (MT nD τ sig Unit (Elt F) ℕ UU ℕ) := embL
/-- and where the rounds' part sits. -/
abbrev ER : Emb UB (MT nD τ sig Unit (Elt F) ℕ UU ℕ) := embR

/-! ## The semaphores -/

/-- The semaphores one device takes part with: -/
abbrev Cell : Type := Bool ⊕ (Fin 31 ⊕ Fin 31)
/-- the barrier, -/
abbrev Cell.bar : Cell := .inl false
/-- the local copy's semaphore, -/
abbrev Cell.loc : Cell := .inl true
/-- hop `r`'s send semaphore, -/
abbrev Cell.send (r : Fin 31) : Cell := .inr (.inl r)
/-- and hop `r`'s receive semaphore. -/
abbrev Cell.recv (r : Fin 31) : Cell := .inr (.inr r)

/-- Which semaphore each is. -/
def semOf : Cell → SemLoc sig
  | .inl false => .reg barS
  | .inl true => .dma locS
  | .inr (.inl r) => .dma (sendS r)
  | .inr (.inr r) => .dma (recvS r)

/-- Which of them a semaphore is, read off its number. -/
def cellOf : SemLoc sig → Option Cell
  | .reg s => if s = barS then some .bar else none
  | .dma q =>
    if h : 4 ≤ q.val ∧ q.val < 35 then some (.send ⟨q.val - 4, by omega⟩)
    else if h : 36 ≤ q.val ∧ q.val < 67 then some (.recv ⟨q.val - 36, by omega⟩)
    else if q.val = 67 then some .loc
    else none

/-- A cell's semaphore is read back as that cell, -/
theorem cellOf_semOf : ∀ k, cellOf (semOf k) = some k := by decide +kernel

/-- The semaphore `k` of device `c`. -/
abbrev at_ (c : Dev nD) (k : Cell) : GSem nD τ sig := ((c : Thread nD τ), semOf k)

/-- Different cells have different semaphores, -/
theorem semOf_inj {k k' : Cell} (h : semOf k = semOf k') : k = k' :=
  Option.some.inj ((cellOf_semOf k).symm.trans ((congrArg cellOf h).trans (cellOf_semOf k')))
/-- on different devices too. -/
theorem at_inj {c c' : Dev nD} {k k' : Cell} (h : at_ c k = at_ c' k') : c = c' ∧ k = k' :=
  ⟨by have := congrArg (fun g : GSem nD τ sig => g.1.1) h; exact this, semOf_inj (congrArg Prod.snd h)⟩

/-- What one copy of a block credits. -/
def N : ℕ := (rowM (0 : Fin 32)).view.dmaCredit
/-- A copy's credit is positive. -/
theorem N_pos : 0 < N := View.dmaCredit_pos _ (by decide)
/-- Every device's rows count `N`, -/
theorem rowCredit (off : Fin 2 → Nat) (h : ∀ a, off a + S32x32.size a ≤ S1024x32.size a) : (rowsAt off h).view.dmaCredit = N := rfl
/-- and so does every slot. -/
theorem blockCredit (off : Fin 3 → Nat) (h : ∀ a, off a + S1x32x32.size a ≤ S32x32x32.size a) : (blockAt off h).view.dmaCredit = N := rfl

/-! ## Ownership of rows and of blocks -/

/-- Device `c`'s result rows that device `s` fills, holding `f`. -/
def rowPts (c s : Dev nD) (f : Buf (Elt F) ((c : Thread nD τ).loc cc0_stg2_0)) : sProp 𝕄 :=
  (rowM s).view.loc (c : Thread nD τ) ↦[(rowM s).view.set]{fullShare} f
/-- Device `c`'s send block for device `t`, holding `f`. -/
def slotPts (c t : Dev nD) (f : Buf (Elt F) ((c : Thread nD τ).loc cc0_scratch0)) : sProp 𝕄 :=
  (slotM t).view.loc (c : Thread nD τ) ↦[(slotM t).view.set]{fullShare} f

omit [FloatOps F] in
instance rowPts_storable (c s : Dev nD) (f) : BI.Storable (upEmb : UEmb _ 𝕄) (rowPts (F := F) c s f) := by unfold rowPts; infer_instance
omit [FloatOps F] in
instance slotPts_storable (c t : Dev nD) (f) : BI.Storable (upEmb : UEmb _ 𝕄) (slotPts (F := F) c t f) := by unfold slotPts; infer_instance

omit [FloatOps F] in
/-- Only the contents of the rows matter for owning them, -/
theorem rowPts_congr (c s : Dev nD) {f g : Buf (Elt F) ((c : Thread nD τ).loc cc0_stg2_0)} (h : ∀ i ∈ rowSet s, f i = g i) :
    rowPts c s f = rowPts c s g := pointsTo_congr h
omit [FloatOps F] in
/-- and of the slot for owning it. -/
theorem slotPts_congr (c t : Dev nD) {f g : Buf (Elt F) ((c : Thread nD τ).loc cc0_scratch0)} (h : ∀ i ∈ slotSet t, f i = g i) :
    slotPts c t f = slotPts c t g := pointsTo_congr h

omit [FloatOps F] in
/-- The whole result is its rows, one group for each device. -/
theorem rows_eq (c : Dev nD) (f : Buf (Elt F) ((c : Thread nD τ).loc cc0_stg2_0)) :
    (((c : Thread nD τ).loc cc0_stg2_0) ↦{fullShare} f : sProp 𝕄) = bigSep Finset.univ fun s => rowPts c s f :=
  Ring.pointsTo_sub_blocks (ℓ := (c : Thread nD τ).loc cc0_stg2_0) rowSet rows_disjoint Finset.univ rows_cover f
omit [FloatOps F] in
/-- The whole send buffer is its blocks, one for each device. -/
theorem slots_eq (c : Dev nD) (f : Buf (Elt F) ((c : Thread nD τ).loc cc0_scratch0)) :
    (((c : Thread nD τ).loc cc0_scratch0) ↦{fullShare} f : sProp 𝕄) = bigSep Finset.univ fun t => slotPts c t f :=
  Ring.pointsTo_sub_blocks (ℓ := (c : Thread nD τ).loc cc0_scratch0) slotSet slots_disjoint Finset.univ slots_cover f

omit [FloatOps F] in
/-- Over all devices, this one first and then the others in hop order, forward; -/
theorem all_nxt (c : Dev nD) (Φ : Dev nD → sProp 𝕄) : bigSep Finset.univ Φ = iprop(Φ c ∗ bigSepL hops fun r => Φ (nxt c r)) := by
  rw [bigSep_univ_eq_bigSepL _ (devices_nxt c) (devices_nxt_nodup c), bigSepL_cons', bigSepL_map]
omit [FloatOps F] in
/-- and backward. -/
theorem all_prv (c : Dev nD) (Φ : Dev nD → sProp 𝕄) : bigSep Finset.univ Φ = iprop(Φ c ∗ bigSepL hops fun r => Φ (prv c r)) := by
  rw [bigSep_univ_eq_bigSepL _ (devices_prv c) (devices_prv_nodup c), bigSepL_cons', bigSepL_map]

/-! ## The schedule -/

variable (ys : Dev nD → FVec F S32x1024 .f32)

/-- What paying duty `d` of device `c`'s semaphore hands to `c`. -/
def pay (c : Dev nD) : Cell → Fin 31 → sProp 𝕄
  | .inl false, d => iprop(∃ f, rowPts (nxt c d) c f)
  | .inl true, _ => iprop(rowPts c c (outOf ys c) ∗ slotPts c c (sbufOf (ys c)))
  | .inr (.inl r), _ => slotPts c (nxt c r) (sbufOf (ys c))
  | .inr (.inr r), _ => rowPts c (prv c r) (outOf ys c)

instance pay_storable (c : Dev nD) (k : Cell) (d : Fin 31) : BI.Storable (upEmb : UEmb _ 𝕄) (pay ys c k d) := by
  rcases k with (_ | _) | (_ | _) <;> unfold pay <;> infer_instance

/-- A barrier has all duties, of one unit; every other semaphore has the duty 0, of a block's credit. -/
def dutiesOf : Cell → Finset (Fin 31)
  | .inl false => Finset.univ
  | _ => {0}
/-- A barrier signal is one unit, a copy `N`. -/
def amountOf : Cell → ℕ
  | .inl false => 1
  | _ => N
/-- Every amount is positive. -/
theorem amountOf_pos (k : Cell) : 0 < amountOf k := by
  rcases k with (_ | _) | (_ | _)
  · exact Nat.one_pos
  · exact N_pos
  · exact N_pos
  · exact N_pos

/-- The schedule: one round. -/
def plan : Rounds.Schedule (GSem nD τ sig) (Fin 31) 𝕄 where
  duties g r := if r = 0 ∧ g.1.2 = .tc then (cellOf g.2).elim ∅ dutiesOf else ∅
  unitless _ := False
  amount g _ _ := (cellOf g.2).elim 1 amountOf
  payload g _ d := (cellOf g.2).elim iprop(emp) fun k => pay ys g.1.1 k d
  amount_pos g _ _ _ := by
    cases cellOf g.2 with
    | none => exact Nat.one_pos
    | some k => exact amountOf_pos k

instance plan_payload_storable (g : GSem nD τ sig) (r : ℕ) (d : Fin 31) :
    BI.Storable (upEmb : UEmb _ 𝕄) ((plan ys).payload g r d) := by
  show BI.Storable upEmb ((cellOf g.2).elim iprop(emp) fun k => pay ys g.1.1 k d)
  cases cellOf g.2 with
  | none => show BI.Storable upEmb iprop(emp); infer_instance
  | some k => show BI.Storable upEmb (pay ys g.1.1 k d); infer_instance

section Plan
variable (c : Dev nD) (k : Cell)

/-- The plan's duties at a cell, -/
theorem duties_at : (plan ys).duties (at_ c k) 0 = dutiesOf k := by
  show (if (0 : ℕ) = 0 ∧ (at_ c k).1.2 = .tc then (cellOf (semOf k)).elim ∅ dutiesOf else ∅) = _
  rw [if_pos ⟨rfl, rfl⟩, cellOf_semOf]; rfl
/-- of which there is only the one round; -/
theorem duties_later (g : GSem nD τ sig) : ∀ r, 1 ≤ r → (plan ys).duties g r = ∅ :=
  fun r hr => if_neg fun h => by omega
/-- their amounts, -/
theorem amount_at (d : Fin 31) : (plan ys).amount (at_ c k) 0 d = amountOf k := by
  show (cellOf (semOf k)).elim 1 amountOf = _
  rw [cellOf_semOf]; rfl
/-- and their payloads. -/
theorem payload_at (d : Fin 31) : (plan ys).payload (at_ c k) 0 d = pay ys c k d := by
  show (cellOf (semOf k)).elim iprop(emp) (fun k => pay ys c k d) = _
  rw [cellOf_semOf]; rfl

/-- The whole round of a barrier is 31 units; -/
theorem expect_bar : (plan ys).expect (at_ c .bar) 0 = 31 := by
  unfold Schedule.expect Schedule.amountOf
  rw [duties_at, Finset.sum_congr rfl fun d _ => amount_at ys c .bar d]
  rfl
/-- of a cell with one copy, `N`. -/
theorem expect_copy (h : dutiesOf k = {0}) (h' : amountOf k = N) : (plan ys).expect (at_ c k) 0 = N := by
  unfold Schedule.expect Schedule.amountOf
  rw [duties_at, h, Finset.sum_singleton, amount_at, h']

/-- What the whole round of a barrier hands over: rows of every other device; -/
theorem rest_bar : bigSep ((plan ys).duties (at_ c .bar) 0 \ ∅) (fun d => (plan ys).payload (at_ c .bar) 0 d)
    = bigSepL hops fun r => iprop(∃ f, rowPts (nxt c r) c f) := by
  rw [Finset.sdiff_empty, duties_at, show dutiesOf .bar = Finset.univ from rfl, bigSep_univ_eq_bigSepL hops (List.toFinset_finRange 31).symm (List.nodup_finRange 31)]
  exact congrArg (bigSepL hops) (funext fun d => payload_at ys c .bar d)
/-- of any other semaphore, its one payload. -/
theorem rest_copy (h : dutiesOf k = {0}) :
    bigSep ((plan ys).duties (at_ c k) 0 \ ∅) (fun d => (plan ys).payload (at_ c k) 0 d) = pay ys c k 0 := by
  rw [Finset.sdiff_empty, duties_at, h, bigSep_singleton, payload_at]

end Plan

/-! ## What each device owes, and the levels -/

/-- A unit to the barrier at each of the hops `l`; -/
def owedBar (c : Dev nD) (l : List (Fin 31)) : CellTallies nD τ sig Unit := (l.map fun r => tallyAt (at_ (nxt c r) .bar) () 1).sum
/-- a block's credit to the receive semaphore at each of the hops `l`; -/
def owedRecv (c : Dev nD) (l : List (Fin 31)) : CellTallies nD τ sig Unit := (l.map fun r => tallyAt (at_ (nxt c r) (.recv r)) () N).sum
/-- at launch both, at every hop. -/
def O₀ (c : Dev nD) : CellTallies nD τ sig Unit := owedRecv c hops + owedBar c hops

/-- What is owed the barriers, one hop at a time, -/
theorem owedBar_cons (c : Dev nD) (r : Fin 31) (l : List (Fin 31)) (O : CellTallies nD τ sig Unit) :
    O + owedBar c (r :: l) = (O + owedBar c l) + tallyAt (at_ (nxt c r) .bar) () 1 := by
  unfold owedBar; rw [List.map_cons, List.sum_cons, add_assoc, add_comm (List.sum _)]
/-- and what is owed the receive semaphores. -/
theorem owedRecv_cons (c : Dev nD) (r : Fin 31) (l : List (Fin 31)) :
    owedRecv c (r :: l) = owedRecv c l + tallyAt (at_ (nxt c r) (.recv r)) () N := by
  unfold owedRecv; rw [List.map_cons, List.sum_cons, add_comm]

/-- A positive sum has a positive summand. -/
theorem sum_pos_exists (f : Fin 31 → CellTallies nD τ sig Unit) {g : GSem nD τ sig} {u : Unit} :
    ∀ {l : List (Fin 31)}, 0 < (l.map f).sum g u → ∃ r, 0 < f r g u
  | [], h => absurd h (Nat.lt_irrefl 0)
  | r :: l, h => by
    rw [List.map_cons, List.sum_cons, Pi.add_apply, Finsupp.add_apply] at h
    rcases Nat.eq_zero_or_pos (f r g u) with h0 | h0
    · rw [h0, Nat.zero_add] at h; exact sum_pos_exists f h
    · exact ⟨r, h0⟩

/-- A tally at one semaphore is positive only there. -/
theorem tallyAt_pos {g g' : GSem nD τ sig} {u u' : Unit} {n : ℕ} (h : 0 < (tallyAt g u n : CellTallies nD τ sig Unit) g' u') : g' = g := by
  rw [tallyAt_apply] at h
  by_contra hn
  rw [if_neg (fun h' => hn h'.1)] at h
  exact Nat.lt_irrefl 0 h

/-- Only receive semaphores are owed copies, -/
theorem owedRecv_pos {c : Dev nD} {l : List (Fin 31)} {g : GSem nD τ sig} {u : Unit} (h : 0 < owedRecv c l g u) :
    ∃ r, g = at_ (nxt c r) (.recv r) := by
  obtain ⟨r, hr⟩ := sum_pos_exists _ h
  exact ⟨r, tallyAt_pos hr⟩
/-- only barriers are owed signals, -/
theorem owedBar_pos {c : Dev nD} {l : List (Fin 31)} {g : GSem nD τ sig} {u : Unit} (h : 0 < owedBar c l g u) :
    ∃ r, g = at_ (nxt c r) .bar := by
  obtain ⟨r, hr⟩ := sum_pos_exists _ h
  exact ⟨r, tallyAt_pos hr⟩
/-- and nothing else is owed at launch. -/
theorem O₀_pos {c : Dev nD} {g : GSem nD τ sig} {u : Unit} (h : 0 < O₀ c g u) :
    (∃ r, g = at_ (nxt c r) (.recv r)) ∨ ∃ r, g = at_ (nxt c r) .bar := by
  unfold O₀ at h
  rw [Pi.add_apply, Finsupp.add_apply] at h
  rcases Nat.eq_zero_or_pos (owedRecv c hops g u) with h0 | h0
  · rw [h0, Nat.zero_add] at h; exact .inr (owedBar_pos h)
  · exact .inl (owedRecv_pos h0)

/-- Only the TensorCores' semaphores have a level. -/
def L (g : GSem nD τ sig) : Finset Unit := if g.1.2 = .tc then {()} else ∅
/-- Barriers on level 1, receive semaphores on level 2, everything else on level 0. -/
def levelOf : Cell → ℕ
  | .inl false => 1
  | .inr (.inr _) => 2
  | _ => 0
/-- A semaphore's level is that of its cell, or zero. -/
def lv (g : GSem nD τ sig) (_ : Unit) : ℕ := (cellOf g.2).elim 0 levelOf

/-- Other processors' semaphores have none, -/
theorem L_of_ne (g : GSem nD τ sig) (h : g.1.2 ≠ .tc) : L g = ∅ := if_neg h
/-- those of a TensorCore have it, -/
theorem L_tc (c : Dev nD) (sm : SemLoc sig) : L ((c : Thread nD τ), sm) = {()} := if_pos rfl
/-- and it is the cell's. -/
theorem lv_at (c : Dev nD) (k : Cell) (u : Unit) : lv (at_ c k) u = levelOf k := by
  show (cellOf (semOf k)).elim 0 levelOf = _
  rw [cellOf_semOf]; rfl

omit [FloatOps F] in
/-- A device may wait on a semaphore when everything it owes is on a higher level. -/
theorem mayWait (c : Dev nD) (sm : SemLoc sig) (n : ℕ) (h0 : lv ((c : Thread nD τ), sm) () ≤ n) (O : CellTallies nD τ sig Unit)
    (h : ∀ g u, 0 < O g u → ∃ c' k, g = at_ c' k ∧ n < levelOf k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := h g u hg; rw [L_tc]; exact Finset.mem_singleton_self _)
    (fun p hp => by rw [Finset.mem_singleton.mp hp]; exact h0)
    (fun g u hg => by obtain ⟨c', k, rfl, hk⟩ := h g u hg; rw [lv_at]; exact hk)

omit [FloatOps F] in
/-- At its barrier a device owes receive semaphores only. -/
theorem mayWait_bar (c : Dev nD) :
    (levAts L lv : sProp 𝕄) ⊢ MayWait (c : Thread nD τ) (.reg barS) () (owedRecv c hops) :=
  mayWait c _ 1 (lv_at c .bar ()).le _ fun g u hg => by
    obtain ⟨r, hr⟩ := owedRecv_pos hg; exact ⟨_, _, hr, Nat.lt_succ_self 1⟩

omit [FloatOps F] in
/-- On a staging semaphore a device may wait whether it owes all or nothing. -/
theorem mayWait_stage (c : Dev nD) (sm : SemLoc sig) (h0 : cellOf sm = none) (O : CellTallies nD τ sig Unit) (hO : O = O₀ c ∨ O = 0) :
    (levAts L lv : sProp 𝕄) ⊢ MayWait (c : Thread nD τ) sm () O := by
  rcases hO with rfl | rfl
  · refine mayWait c sm 0 ?_ _ fun g u hg => ?_
    · show (cellOf sm).elim 0 levelOf ≤ 0; rw [h0]; exact Nat.le_refl 0
    · rcases O₀_pos hg with ⟨r, hr⟩ | ⟨r, hr⟩
      · exact ⟨_, _, hr, Nat.succ_pos 1⟩
      · exact ⟨_, _, hr, Nat.succ_pos 0⟩
  · rw [MayWait_zero]; iintro -; iempintro

end Cert.AllToAll

end
-- ==== Proof.Steps.lean ====
/-
# The steps of the body, each proved once, and the loops over them

For each kind of step one lemma about a single step, and one by induction on the list of hops (or blocks) left to do.
`owed c O` is what device `c` owes, whatever it has waited for so far.
-/
module

public import proofs.«01_k».proof.Proof.Protocol

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program declares no loop variants. -/
abbrev 𝒱₀ : Variants := Variants.none

/-- Device `c` runs `p` and ends with `Q`. -/
abbrev runs {β : Type} (c : Dev nD) (p : Code F β) (Q : β → sProp 𝕄) : sProp 𝕄 :=
  wp frame (wpE (defs₀ (F := F)) 𝒱₀ (c : Thread nD τ) none) Set.univ p Q

variable (ys : Dev nD → FVec F S32x1024 .f32)

/-! ## What all devices know, and what each holds -/

/-- Every semaphore in play is kept by the plan, under the name `K` gives it, and is at its first round. -/
def records (K : Dev nD × Cell → ℕ) : sProp 𝕄 :=
  iprop((bigSep Finset.univ fun ck : Dev nD × Cell => cellInv ER (plan ys) (K ck) (at_ ck.1 ck.2))
    ∗ bigSep Finset.univ fun ck : Dev nD × Cell => reached ER (at_ ck.1 ck.2) 0)

instance records_persistent (K : Dev nD × Cell → ℕ) : BI.Persistent (records ys K) := by unfold records; infer_instance

variable (K : Dev nD × Cell → ℕ)

/-- The records hold the invariant of each cell, -/
theorem records_inv (c : Dev nD) (k : Cell) : records ys K ⊢ cellInv ER (plan ys) (K (c, k)) (at_ c k) := by
  unfold records
  iintro ⟨H, -⟩
  have h : (bigSep Finset.univ fun ck : Dev nD × Cell => cellInv ER (plan ys) (K ck) (at_ ck.1 ck.2)) ⊢ cellInv ER (plan ys) (K (c, k)) (at_ c k) :=
    bigSep_elim (Φ := fun ck : Dev nD × Cell => (cellInv ER (plan ys) (K ck) (at_ ck.1 ck.2) : sProp 𝕄)) (Finset.mem_univ (c, k))
  iapply h
  iexact H
/-- and that its round zero is reached. -/
theorem records_reached (c : Dev nD) (k : Cell) : records ys K ⊢ reached ER (at_ c k) 0 := by
  unfold records
  iintro ⟨-, H⟩
  have h : (bigSep Finset.univ fun ck : Dev nD × Cell => (reached ER (at_ ck.1 ck.2) 0 : sProp 𝕄)) ⊢ reached ER (at_ c k) 0 :=
    bigSep_elim (Φ := fun ck : Dev nD × Cell => (reached ER (at_ ck.1 ck.2) 0 : sProp 𝕄)) (Finset.mem_univ (c, k))
  iapply h
  iexact H

/-- Device `c` owes `O`. -/
def owed (c : Dev nD) (O : CellTallies nD τ sig Unit) : sProp 𝕄 := iprop(∃ W, owes (c : Thread nD τ) O W)

/-! ## Signals -/

/-- The signal over hop `r` pays the barrier there one unit, handing over the rows that device is to fill. -/
theorem signal_step {β : Type} (c : Dev nD) (r : Fin 31) (l : List (Fin 31)) (O : CellTallies nD τ sig Unit) (k : Code F β) (Q : β → sProp 𝕄) :
    iprop(records ys K ∗ dutyTok ER (at_ (nxt c r) .bar) 0 r.rev ∗ (∃ f, rowPts c (nxt c r) f) ∗ owed c (O + owedBar c (r :: l)))
      ⊢ iprop((owed c (O + owedBar c l) -∗ runs c k Q) -∗ runs c ((signalStep c r).bind fun _ => k) Q) := by
  unfold signalStep
  simp only [semSignalWord, Prog.bind_op, Prog.bind_ret]
  rw [peer_eq, owedBar_cons]
  have hp : (plan ys).payload ((nxt c r : Thread nD τ), SemLoc.reg barS) 0 r.rev = iprop(∃ f, rowPts c (nxt c r) f) :=
    (payload_at ys (nxt c r) .bar r.rev).trans (by
      show iprop(∃ f, rowPts (nxt (nxt c r) r.rev) (nxt c r) f) = _
      rw [nxt_rev])
  unfold owed
  iintro ⟨#HR, Ht, Hrow, ⟨%W, HO⟩⟩ Hk
  iapply (Rounds.wp_signal 𝒱₀ ER (plan ys) (c : Thread nD τ) none (dst := (nxt c r : Thread nD τ)) (κ := K (nxt c r, .bar))
      (d := r.rev) (by show r.rev ∈ (plan ys).duties (at_ (nxt c r) .bar) 0; rw [duties_at]; exact Finset.mem_univ _) ((amount_at ys (nxt c r) .bar r.rev).trans (by decide)) () (O + owedBar c l) rfl)
    $$ [HO Ht Hrow]
  · isplitr; · iapply (records_inv ys K (nxt c r) .bar); iexact HR
    isplitl [HO]; · iexact HO
    isplitl [Ht]; · iexact Ht
    isplitl [Hrow]
    · rw [hp]; iexact Hrow
    · iapply (records_reached ys K (nxt c r) .bar); iexact HR
  iintro HO
  iapply Hk
  iexists W
  iexact HO

/-- All signals still to send. -/
theorem signals {β : Type} (c : Dev nD) (O : CellTallies nD τ sig Unit) (k : Code F β) (Q : β → sProp 𝕄) : ∀ l : List (Fin 31),
    iprop(records ys K ∗ (bigSepL l fun r => dutyTok ER (at_ (nxt c r) .bar) 0 r.rev) ∗ (bigSepL l fun r => iprop(∃ f, rowPts c (nxt c r) f))
        ∗ owed c (O + owedBar c l))
      ⊢ iprop((owed c O -∗ runs c k Q) -∗ runs c (walk (signalStep c) l k) Q)
  | [] => by
    rw [show O + owedBar c [] = O from add_zero O]
    iintro ⟨-, -, -, HO⟩ Hk
    iapply Hk; iexact HO
  | r :: l => by
    simp only [bigSepL_cons']
    iintro ⟨#HR, ⟨Ht, Hts⟩, ⟨Hrow, Hrows⟩, HO⟩ Hk
    unfold walk
    iapply (signal_step ys K c r l O) $$ [Ht Hrow HO]
    · isplitr; · iexact HR
      isplitl [Ht]; · iexact Ht
      isplitl [Hrow] <;> iassumption
    iintro HO
    iapply (signals c O k Q l) $$ [Hts Hrows HO]
    · isplitr; · iexact HR
      isplitl [Hts]; · iexact Hts
      isplitl [Hrows] <;> iassumption
    iexact Hk

/-! ## Stores -/

/-- What reading column block `t` of the send buffer touches is block `t`. -/
theorem blkLoad_sub (t : Dev nD) : bM.view.setOn (blkRect t).toLoadRect.set ⊆ slotSet t := by
  rw [← blkSet_eq]
  exact (View.set_slice bM.view (blkRect t)).ge

/-- Storing column block `t` leaves block `t` of the send buffer at its final contents. -/
theorem store_step {β : Type} (c t : Dev nD) (y : FVec F S32x1024 .f32) (k : Code F β) (Q : β → sProp 𝕄) :
    iprop(∃ f, slotPts c t f) ⊢ iprop((slotPts c t (sbufOf y) -∗ runs c k Q) -∗ runs c ((storeStep y t).bind fun _ => k) Q) := by
  unfold storeStep
  simp only [Prog.lift, Prog.bind_op, Prog.bind_ret]
  iintro ⟨%f, H⟩ Hk
  unfold slotPts
  iapply (wp_load 𝒱₀ (c : Thread nD τ) none Set.univ (m := bM) (r := (blkRect t).toLoadRect) (S := (slotM t).view.set)
    (blkLoad_sub t)) $$ H
  iintro H
  iapply (wp_store 𝒱₀ (c : Thread nD τ) none Set.univ (m := bM) (r := blkRect t) (Mk := Finset.univ) (S := (slotM t).view.set)
    (blkSet_eq t).le) $$ H
  iintro H
  iapply Hk
  ihave H' := (Entails.of_eq (slotPts_congr (F := F) c t (stored_eq y t f))) $$ [H]
  · unfold slotPts; iexact H
  unfold slotPts
  iexact H'

/-- All stores still to do. -/
theorem stores {β : Type} (c : Dev nD) (y : FVec F S32x1024 .f32) (k : Code F β) (Q : β → sProp 𝕄) : ∀ l : List (Fin 32),
    (bigSepL l fun t => iprop(∃ f, slotPts c t f))
      ⊢ iprop(((bigSepL l fun t => slotPts c t (sbufOf y)) -∗ runs c k Q) -∗ runs c (walk (storeStep y) l k) Q)
  | [] => by
    iintro H Hk
    iapply Hk; iexact H
  | t :: l => by
    simp only [bigSepL_cons']
    iintro ⟨H, Hs⟩ Hk
    unfold walk
    iapply (store_step c t y) $$ H
    iintro H
    iapply (stores c y k Q l) $$ Hs
    iintro Hs
    iapply Hk
    isplitl [H] <;> iassumption

/-! ## The barrier -/

/-- The wait for 31 units on its own barrier brings the rows `c` is to fill on every other device. -/
theorem barrier_step {β : Type} (c : Dev nD) (k : Code F β) (Q : β → sProp 𝕄) :
    iprop(records ys K ∗ cred (tallyAt (at_ c .bar) () 31) ∗ levAts L lv ∗ atPos ER (at_ c .bar) 0 ∅ 0 ∗ owed c (owedRecv c hops))
      ⊢ iprop(((owed c (owedRecv c hops) ∗ atPos ER (at_ c .bar) 1 ∅ 0 ∗ bigSepL hops fun r => iprop(∃ f, rowPts (nxt c r) c f)) -∗ runs c k Q)
        -∗ runs c ((semWaitWord barS 31#32).bind fun _ => k) Q) := by
  simp only [semWaitWord, Prog.bind_op, Prog.bind_ret]
  unfold owed
  iintro ⟨#HR, Hc, #Hlev, Hat, ⟨%W, HO⟩⟩ Hk
  iapply (Rounds.wp_wait_rest_token 𝒱₀ ER (plan ys) (c : Thread nD τ) none (κ := K (c, .bar)) (sm := semOf .bar)
      (wpE_semWait_eq 𝒱₀ (c : Thread nD τ) none Set.univ) (Set.mem_univ _) () (O := owedRecv c hops) (W := W) (R := 0) (m := 0) (T := ∅)
      (by rw [expect_bar]; decide)) $$ [Hc HO Hat]
  · isplitr; · iapply (records_inv ys K c .bar); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar ys c)) $$ Hpay
  iapply Hk
  isplitl [HO]; · iexists _; iexact HO
  isplitl [Hat]; · iexact Hat
  iexact Hp

/-! ## Copies -/

/-- The copy over hop `r`, its device, rows, block and semaphores named by equations. -/
theorem send_step_at {β : Type} (c : Dev nD) (r : Fin 31) (l : List (Fin 31)) (n : Dev nD) (hn : n = nxt c r)
    (src dst : Memref sig .tc .vmem S32x32 .f32) (hs : src = slotM (nxt c r)) (hd : dst = rowM c)
    (sS sR : SemLoc sig) (hS : sS = semOf (.send r)) (hR : sR = semOf (.recv r)) (hN : dst.view.amount sR = N)
    {hsrc : src.view.WordExact} {hdst : dst.view.WordExact} {hsc : dst.view.ref.isScScratch = false}
    {hsem : DmaTarget.Typed .vmem sR (.remote (Dev.tc n : Thread nD τ) dst sS hsc)}
    (k : Code F β) (Q : β → sProp 𝕄) :
    iprop(records ys K ∗ slotPts c (nxt c r) (sbufOf (ys c)) ∗ (∃ f, rowPts (nxt c r) c f) ∗ owed c (owedRecv c (r :: l))
        ∗ dutyTok ER (at_ c (.send r)) 0 0 ∗ dutyTok ER (at_ (nxt c r) (.recv r)) 0 0)
      ⊢ iprop(((cred (tallyAt (at_ c (.send r)) () N) ∗ owed c (owedRecv c l)) -∗ runs c k Q)
        -∗ runs c (.op (.enqueueDma src (.remote (Dev.tc n : Thread nD τ) dst sS hsc) sR hsrc hdst hsem) fun _ => k) Q) := by
  subst hn hs hd hS hR
  rw [owedRecv_cons]
  unfold owed
  have hrow (f : Buf (Elt F) ((nxt c r : Thread nD τ).loc cc0_stg2_0)) :
      ((rowM c).view.loc (nxt c r : Thread nD τ) ↦[(rowM c).view.set]{fullShare}
          ((rowM c).view.write (Elt F) f ((slotM (nxt c r)).view.read (Elt F) (sbufOf (ys c))) Finset.univ) : sProp 𝕄)
        ⊢ (plan ys).payload (at_ (nxt c r) (.recv r)) 0 0 := by
    rw [payload_at]
    refine Entails.of_eq ?_
    have h := rowPts_congr (F := F) (nxt c r) c (landed_eq ys (nxt c r) c f)
    exact h.trans (show rowPts (nxt c r) c (outOf ys (nxt c r)) = rowPts (nxt c r) (prv (nxt c r) r) (outOf ys (nxt c r)) by rw [prv_nxt])
  have hblk : ((slotM (nxt c r)).view.loc (c : Thread nD τ) ↦[(slotM (nxt c r)).view.set]{fullShare} sbufOf (ys c) : sProp 𝕄)
        ⊢ (plan ys).payload (at_ c (.send r)) 0 0 := by
    rw [payload_at]; exact BI.Entails.refl _
  iintro ⟨#HR, Hs, ⟨%f, Hd⟩, ⟨%W, HO⟩, Ht, Ht'⟩ Hk
  unfold slotPts rowPts
  have hw := Rounds.wp_send_pointsTo (defs := defs₀ (F := F)) 𝒱₀ ER (plan ys) (c : Thread nD τ) none (κ₁ := K (c, .send r)) (κ₂ := K (nxt c r, .recv r))
    (Es := Set.univ) (Γ := .empty) (c' := (nxt c r : Thread nD τ)) (src := slotM (nxt c r)) (dst := rowM c) (sS := semOf (.send r)) (sem := semOf (.recv r))
    (hsrc := hsrc) (hdst := hdst) (hsc := hsc) (hsem := hsem) (q := fullShare) (fs := sbufOf (ys c)) (k := fun _ => k) (Q := Q) (r₁ := 0) (r₂ := 0) (d₁ := 0) (d₂ := 0) (fd := f)
    (by rw [duties_at]; exact Finset.mem_singleton_self _) (by rw [duties_at]; exact Finset.mem_singleton_self _)
    () () N hN (amount_at ys c (.send r) 0) (amount_at ys (nxt c r) (.recv r) 0) (owedRecv c l) rfl (W := W)
    hblk (hrow f)
  iapply hw $$ [Hs Hd HO Ht Ht']
  · isplitr; · iapply (records_inv ys K c (.send r)); iexact HR
    isplitr; · iapply (records_inv ys K (nxt c r) (.recv r)); iexact HR
    isplitl [Hs]; · iexact Hs
    isplitl [Hd]; · iexact Hd
    isplitl [HO]; · iexact HO
    isplitl [Ht]; · iexact Ht
    isplitr; · iapply (records_reached ys K c (.send r)); iexact HR
    isplitl [Ht']; · iexact Ht'
    iapply (records_reached ys K (nxt c r) (.recv r)); iexact HR
  iintro ⟨Hc, HO⟩
  iapply Hk
  isplitl [Hc]; · iexact Hc
  iexists W; iexact HO

/-- The copy over hop `r`: the block there and the rows it is to fill go in, credit for the wait for the block comes out. -/
theorem send_step {β : Type} (c : Dev nD) (r : Fin 31) (l : List (Fin 31)) (k : Code F β) (Q : β → sProp 𝕄) :
    iprop(records ys K ∗ slotPts c (nxt c r) (sbufOf (ys c)) ∗ (∃ f, rowPts (nxt c r) c f) ∗ owed c (owedRecv c (r :: l))
        ∗ dutyTok ER (at_ c (.send r)) 0 0 ∗ dutyTok ER (at_ (nxt c r) (.recv r)) 0 0)
      ⊢ iprop(((cred (tallyAt (at_ c (.send r)) () N) ∗ owed c (owedRecv c l)) -∗ runs c k Q)
        -∗ runs c ((sendStep c r).bind fun _ => k) Q) :=
  send_step_at ys K c r l (peer c r) (peer_eq c r) _ _ (sendBlock_eq c r) (ownRows_eq c) (.dma (sendS r)) (.dma (recvS r)) rfl rfl (rowCredit _ _) k Q

/-- All copies still to start. -/
theorem sends {β : Type} (c : Dev nD) (k : Code F β) (Q : β → sProp 𝕄) : ∀ l : List (Fin 31),
    iprop(records ys K ∗ (bigSepL l fun r => slotPts c (nxt c r) (sbufOf (ys c))) ∗ (bigSepL l fun r => iprop(∃ f, rowPts (nxt c r) c f))
        ∗ owed c (owedRecv c l) ∗ (bigSepL l fun r => dutyTok ER (at_ c (.send r)) 0 0) ∗ (bigSepL l fun r => dutyTok ER (at_ (nxt c r) (.recv r)) 0 0))
      ⊢ iprop((((bigSepL l fun r => cred (tallyAt (at_ c (.send r)) () N)) ∗ owed c 0) -∗ runs c k Q) -∗ runs c (walk (sendStep c) l k) Q)
  | [] => by
    simp only [bigSepL_nil]
    rw [show owedRecv c [] = 0 from rfl]
    iintro ⟨-, -, -, HO, -, -⟩ Hk
    iapply Hk
    isplitr; · iempintro
    iexact HO
  | r :: l => by
    simp only [bigSepL_cons']
    iintro ⟨#HR, ⟨Hs, Hss⟩, ⟨Hd, Hds⟩, HO, ⟨Ht, Hts⟩, ⟨Ht', Hts'⟩⟩ Hk
    unfold walk
    iapply (send_step ys K c r l) $$ [Hs Hd HO Ht Ht']
    · isplitr; · iexact HR
      isplitl [Hs]; · iexact Hs
      isplitl [Hd]; · iexact Hd
      isplitl [HO]; · iexact HO
      isplitl [Ht] <;> iassumption
    iintro ⟨Hc, HO⟩
    iapply (sends c k Q l) $$ [Hss Hds HO Hts Hts']
    · isplitr; · iexact HR
      isplitl [Hss]; · iexact Hss
      isplitl [Hds]; · iexact Hds
      isplitl [HO]; · iexact HO
      isplitl [Hts] <;> iassumption
    iintro ⟨Hcs, HO⟩
    iapply Hk
    isplitr [HO]
    · isplitl [Hc] <;> iassumption
    iexact HO

/-- The local copy, its rows, block and semaphore named by equations. -/
theorem local_step_at {β : Type} (c : Dev nD) (src dst : Memref sig .tc .vmem S32x32 .f32) (hs : src = slotM c) (hd : dst = rowM c)
    (sL : SemLoc sig) (hL : sL = semOf .loc) (hN : dst.view.amount sL = N)
    {hsrc : src.view.WordExact} {hdst : dst.view.WordExact} {hsem : DmaTarget.Typed (nD := nD) (τ := τ) (p := .tc) .vmem sL (.here dst)}
    (k : Code F β) (Q : β → sProp 𝕄) :
    iprop(records ys K ∗ slotPts c c (sbufOf (ys c)) ∗ (∃ f, rowPts c c f) ∗ dutyTok ER (at_ c .loc) 0 0)
      ⊢ iprop((cred (tallyAt (at_ c .loc) () N) -∗ runs c k Q)
        -∗ runs c (.op (.enqueueDma src (.here dst) sL hsrc hdst hsem) fun _ => k) Q) := by
  subst hs hd hL
  have hpay (f : Buf (Elt F) ((c : Thread nD τ).loc cc0_stg2_0)) :
      iprop(((rowM c).view.loc (c : Thread nD τ) ↦[(rowM c).view.set]{fullShare}
          ((rowM c).view.write (Elt F) f ((slotM c).view.read (Elt F) (sbufOf (ys c))) Finset.univ))
          ∗ ((slotM c).view.loc (c : Thread nD τ) ↦[(slotM c).view.set]{fullShare} sbufOf (ys c)))
        ⊢ (plan ys).payload (at_ c .loc) 0 0 := by
    rw [payload_at]
    unfold pay
    refine sep_mono_left (Entails.of_eq ?_)
    exact rowPts_congr (F := F) c c (landed_eq ys c c f)
  iintro ⟨#HR, Hs, ⟨%f, Hd⟩, Ht⟩ Hk
  unfold slotPts rowPts
  have hw := Rounds.wp_copy_pointsTo (defs := defs₀ (F := F)) 𝒱₀ ER (plan ys) (c : Thread nD τ) none (κ := K (c, .loc)) (Es := Set.univ) (Γ := .empty)
    (src := slotM c) (dst := rowM c) (sem := semOf .loc) (hsrc := hsrc) (hdst := hdst) (hsem := hsem) (q := fullShare) (fs := sbufOf (ys c))
    (k := fun _ => k) (Q := Q) (r := 0) (d := 0) (fd := f) (by rw [duties_at]; exact Finset.mem_singleton_self _) () N hN
    (amount_at ys c .loc 0) (hpay f)
  iapply hw $$ [Hs Hd Ht]
  · isplitr; · iapply (records_inv ys K c .loc); iexact HR
    isplitl [Hs]; · iexact Hs
    isplitl [Hd]; · iexact Hd
    isplitl [Ht]; · iexact Ht
    iapply (records_reached ys K c .loc); iexact HR
  iexact Hk

/-- The local copy: the device's own block and rows go in, credit for the wait comes out. -/
theorem local_step {β : Type} (c : Dev nD) (k : Code F β) (Q : β → sProp 𝕄) :
    iprop(records ys K ∗ slotPts c c (sbufOf (ys c)) ∗ (∃ f, rowPts c c f) ∗ dutyTok ER (at_ c .loc) 0 0)
      ⊢ iprop((cred (tallyAt (at_ c .loc) () N) -∗ runs c k Q) -∗ runs c ((localStep c).bind fun _ => k) Q) :=
  local_step_at ys K c _ _ (ownBlock_eq c) (ownRows_eq c) (.dma locS) rfl (rowCredit _ _) k Q

/-! ## Waits for copies -/

/-- A wait on one of the device's copy semaphores, for one block's credit: the payload of its one duty comes with it. -/
theorem wait_step {β : Type} (c : Dev nD) (j : Cell) (q : DmaSem sig) (hq : semOf j = .dma q) (hj : dutiesOf j = {0}) (hj' : amountOf j = N)
    (src dst : Memref sig .tc .vmem S32x32 .f32) (hN : dst.view.dmaCredit = N)
    {hsrc : src.view.WordExact} {hdst : dst.view.WordExact} (k : Code F β) (Q : β → sProp 𝕄) :
    iprop(records ys K ∗ cred (tallyAt (at_ c j) () N) ∗ atPos ER (at_ c j) 0 ∅ 0 ∗ owed c 0)
      ⊢ iprop(((owed c 0 ∗ atPos ER (at_ c j) 1 ∅ 0 ∗ pay ys c j 0) -∗ runs c k Q)
        -∗ runs c (.op (.waitDma2 q src dst hsrc hdst) fun _ => k) Q) := by
  unfold owed
  iintro ⟨#HR, Hc, Hat, ⟨%W, HO⟩⟩ Hk
  iapply (Rounds.wp_wait_rest_token 𝒱₀ ER (plan ys) (c : Thread nD τ) none (κ := K (c, j)) (sm := semOf j) (k' := N)
      (by rw [hq, ← hN]; exact wpE_waitDma2_eq 𝒱₀ (c : Thread nD τ) none Set.univ) (Set.mem_univ _) () (O := 0) (W := W) (R := 0) (m := 0) (T := ∅)
      (by rw [expect_copy ys c j hj hj', Nat.zero_add])) $$ [Hc HO Hat]
  · isplitr; · iapply (records_inv ys K c j); iexact HR
    isplitl [Hc]; · iexact Hc
    isplitl [HO]; · iexact HO
    isplitr; · rw [MayWait_zero]; iempintro
    iexact Hat
  iintro ⟨HO, Hat, -, Hpay⟩
  ihave Hp := (Entails.of_eq (rest_copy ys c j hj)) $$ Hpay
  iapply Hk
  isplitl [HO]; · iexists _; iexact HO
  isplitl [Hat]; · iexact Hat
  iexact Hp

/-- All waits of one of the two kinds still to do: `step` waits on the semaphore `kind r`. -/
theorem waits_walk {β : Type} (c : Dev nD) (kind : Fin 31 → Cell) (step : Fin 31 → Code F PUnit)
    (hstep : ∀ (r : Fin 31) (k : Code F β) (Q : β → sProp 𝕄),
      iprop(records ys K ∗ cred (tallyAt (at_ c (kind r)) () N) ∗ atPos ER (at_ c (kind r)) 0 ∅ 0 ∗ owed c 0)
        ⊢ iprop(((owed c 0 ∗ atPos ER (at_ c (kind r)) 1 ∅ 0 ∗ pay ys c (kind r) 0) -∗ runs c k Q) -∗ runs c ((step r).bind fun _ => k) Q))
    (k : Code F β) (Q : β → sProp 𝕄) : ∀ l : List (Fin 31),
    iprop(records ys K ∗ (bigSepL l fun r => cred (tallyAt (at_ c (kind r)) () N)) ∗ (bigSepL l fun r => atPos ER (at_ c (kind r)) 0 ∅ 0) ∗ owed c 0)
      ⊢ iprop(((owed c 0 ∗ (bigSepL l fun r => atPos ER (at_ c (kind r)) 1 ∅ 0) ∗ (bigSepL l fun r => pay ys c (kind r) 0)) -∗ runs c k Q)
        -∗ runs c (walk step l k) Q)
  | [] => by
    simp only [bigSepL_nil]
    iintro ⟨-, -, -, HO⟩ Hk
    iapply Hk
    isplitl [HO]; · iexact HO
    isplitr <;> iempintro
  | r :: l => by
    simp only [bigSepL_cons']
    iintro ⟨#HR, ⟨Hc, Hcs⟩, ⟨Ha, Has⟩, HO⟩ Hk
    unfold walk
    iapply (hstep r) $$ [Hc Ha HO]
    · isplitr; · iexact HR
      isplitl [Hc]; · iexact Hc
      isplitl [Ha] <;> iassumption
    iintro ⟨HO, Ha, Hp⟩
    iapply (waits_walk c kind step hstep k Q l) $$ [Hcs Has HO]
    · isplitr; · iexact HR
      isplitl [Hcs]; · iexact Hcs
      isplitl [Has] <;> iassumption
    iintro ⟨HO, Has, Hps⟩
    iapply Hk
    isplitl [HO]; · iexact HO
    isplitl [Ha Has]
    · isplitl [Ha] <;> iassumption
    isplitl [Hp] <;> iassumption

/-- One wait for what arrives. -/
theorem recv_step {β : Type} (c : Dev nD) (r : Fin 31) (k : Code F β) (Q : β → sProp 𝕄) :
    iprop(records ys K ∗ cred (tallyAt (at_ c (.recv r)) () N) ∗ atPos ER (at_ c (.recv r)) 0 ∅ 0 ∗ owed c 0)
      ⊢ iprop(((owed c 0 ∗ atPos ER (at_ c (.recv r)) 1 ∅ 0 ∗ pay ys c (.recv r) 0) -∗ runs c k Q) -∗ runs c ((recvStep c r).bind fun _ => k) Q) :=
  wait_step ys K c (.recv r) (recvS r) rfl rfl rfl (blockAt _ _) (rowsAt _ _) (rowCredit _ _) k Q

/-- One wait for what was sent. -/
theorem sent_step {β : Type} (c : Dev nD) (r : Fin 31) (k : Code F β) (Q : β → sProp 𝕄) :
    iprop(records ys K ∗ cred (tallyAt (at_ c (.send r)) () N) ∗ atPos ER (at_ c (.send r)) 0 ∅ 0 ∗ owed c 0)
      ⊢ iprop(((owed c 0 ∗ atPos ER (at_ c (.send r)) 1 ∅ 0 ∗ pay ys c (.send r) 0) -∗ runs c k Q) -∗ runs c ((sentStep c r).bind fun _ => k) Q) :=
  wait_step ys K c (.send r) (sendS r) rfl rfl rfl (rowsAt _ _) (blockAt _ _) (blockCredit _ _) k Q

/-- The waits for what arrives. -/
theorem recvs {β : Type} (c : Dev nD) (k : Code F β) (Q : β → sProp 𝕄) (l : List (Fin 31)) :
    iprop(records ys K ∗ (bigSepL l fun r => cred (tallyAt (at_ c (.recv r)) () N)) ∗ (bigSepL l fun r => atPos ER (at_ c (.recv r)) 0 ∅ 0) ∗ owed c 0)
      ⊢ iprop(((owed c 0 ∗ (bigSepL l fun r => atPos ER (at_ c (.recv r)) 1 ∅ 0) ∗ (bigSepL l fun r => rowPts c (prv c r) (outOf ys c))) -∗ runs c k Q)
        -∗ runs c (walk (recvStep c) l k) Q) :=
  waits_walk ys K c .recv (recvStep c) (recv_step ys K c) k Q l

/-- The wait for the local copy. -/
theorem local_wait {β : Type} (c : Dev nD) (k : Code F β) (Q : β → sProp 𝕄) :
    iprop(records ys K ∗ cred (tallyAt (at_ c .loc) () N) ∗ atPos ER (at_ c .loc) 0 ∅ 0 ∗ owed c 0)
      ⊢ iprop(((owed c 0 ∗ atPos ER (at_ c .loc) 1 ∅ 0 ∗ rowPts c c (outOf ys c) ∗ slotPts c c (sbufOf (ys c))) -∗ runs c k Q)
        -∗ runs c ((localWaitStep c).bind fun _ => k) Q) :=
  wait_step ys K c .loc locS rfl rfl rfl (blockAt _ _) (rowsAt _ _) (rowCredit _ _) k Q

/-- The waits for what was sent. -/
theorem sents {β : Type} (c : Dev nD) (k : Code F β) (Q : β → sProp 𝕄) (l : List (Fin 31)) :
    iprop(records ys K ∗ (bigSepL l fun r => cred (tallyAt (at_ c (.send r)) () N)) ∗ (bigSepL l fun r => atPos ER (at_ c (.send r)) 0 ∅ 0) ∗ owed c 0)
      ⊢ iprop(((owed c 0 ∗ (bigSepL l fun r => atPos ER (at_ c (.send r)) 1 ∅ 0) ∗ (bigSepL l fun r => slotPts c (nxt c r) (sbufOf (ys c)))) -∗ runs c k Q)
        -∗ runs c (walk (sentStep c) l k) Q) :=
  waits_walk ys K c .send (sentStep c) (sent_step ys K c) k Q l

end Cert.AllToAll

end
-- ==== Proof.Body.lean ====
/-
# The run of one device's body

From its own positions, the tokens it pays with, its launch credit and its four buffers, device `c` runs the five loops
and ends with the result rows at their final contents and every one of its semaphores back at zero.
-/
module

public import proofs.«01_k».proof.Proof.Steps

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ys : Dev nD → FVec F S32x1024 .f32) (K : Dev nD × Cell → ℕ)

/-! ## Holdings over all semaphores of a device -/

omit [FloatOps F] in
/-- Something for every semaphore: for the barrier, the local one, and each hop's send and receive one. -/
theorem cells_eq (Φ : Cell → sProp 𝕄) :
    bigSep Finset.univ Φ = iprop((Φ .bar ∗ Φ .loc) ∗ (bigSepL hops fun r => Φ (.send r)) ∗ (bigSepL hops fun r => Φ (.recv r))) := by
  rw [bigSep_univ_sum, bigSep_univ_sum, bigSep_univ_eq_bigSepL [false, true] (by decide) (by decide),
    bigSep_univ_eq_bigSepL hops (List.toFinset_finRange 31).symm (List.nodup_finRange 31),
    bigSep_univ_eq_bigSepL hops (List.toFinset_finRange 31).symm (List.nodup_finRange 31), bigSepL_cons_cons, bigSepL_singleton]
  rfl

/-- Device `c` stands at round `R` of each of its semaphores. -/
def positions (c : Dev nD) (R : ℕ) : sProp 𝕄 := bigSep Finset.univ fun k : Cell => atPos ER (at_ c k) R ∅ 0
/-- Each of its semaphores is at zero. -/
def allZero (c : Dev nD) : sProp 𝕄 := bigSep Finset.univ fun k : Cell => semVal (at_ c k) 0
/-- What `c` pays with: at each hop a unit of the barrier there and the copy there and back, and its own local copy. -/
def payTokens (c : Dev nD) : sProp 𝕄 :=
  iprop((bigSepL hops fun r => dutyTok ER (at_ (nxt c r) .bar) 0 r.rev) ∗ dutyTok ER (at_ c .loc) 0 0
    ∗ (bigSepL hops fun r => dutyTok ER (at_ c (.send r)) 0 0) ∗ (bigSepL hops fun r => dutyTok ER (at_ (nxt c r) (.recv r)) 0 0))
/-- What others owe `c` at launch. -/
def credits (c : Dev nD) : sProp 𝕄 :=
  iprop(cred (tallyAt (at_ c .bar) () 31) ∗ bigSepL hops fun r => cred (tallyAt (at_ c (.recv r)) () N))

/-- Past its one round, a semaphore closes at zero. -/
theorem close_all (c : Dev nD) : iprop(records ys K ∗ positions c 1) ⊢ (|={Set.univ}=> allZero c : sProp 𝕄) := by
  have h1 (k : Cell) : iprop(records ys K ∗ atPos ER (at_ c k) 1 ∅ 0) ⊢ (|={Set.univ}=> semVal (at_ c k) 0 : sProp 𝕄) :=
    (sep_mono_left (records_inv ys K c k)).trans
      (Rounds.cell_close ER (plan ys) (Set.mem_univ (K (c, k))) (fun h => h) (R := 1) (duties_later ys (at_ c k)))
  unfold positions allZero
  refine (sep_mono_left (BI.bigSep_of_persistent (Finset.univ : Finset Cell) (records ys K))).trans ?_
  rw [← bigSep_sep']
  exact (bigSep_mono fun k _ => h1 k).trans (bigSep_fupd _ _)

/-! ## The result's rows and the send buffer's blocks, opened and joined -/

omit [FloatOps F] in
/-- The staged result, opened: rows of its own, and at each hop the rows the device there is to fill. -/
theorem rows_open (c : Dev nD) (f : Buf (Elt F) ((c : Thread nD τ).loc cc0_stg2_0)) :
    (((c : Thread nD τ).loc cc0_stg2_0) ↦{fullShare} f : sProp 𝕄)
      ⊢ iprop((∃ g, rowPts c c g) ∗ bigSepL hops fun r => iprop(∃ g, rowPts c (nxt c r) g)) := by
  rw [rows_eq, all_nxt c]
  refine BIClass.sep_mono ?_ (bigSepL_mono fun r _ => ?_)
  · iintro H; iexists f; iexact H
  · iintro H; iexists f; iexact H

omit [FloatOps F] in
/-- Its own rows and the rows filled over each hop are the whole staged result. -/
theorem rows_join (c : Dev nD) (f : Buf (Elt F) ((c : Thread nD τ).loc cc0_stg2_0)) :
    iprop(rowPts c c f ∗ bigSepL hops fun r => rowPts c (prv c r) f) ⊢ (((c : Thread nD τ).loc cc0_stg2_0) ↦{fullShare} f : sProp 𝕄) := by
  rw [rows_eq, all_prv c]

omit [FloatOps F] in
/-- The send buffer, opened into blocks. -/
theorem slots_open (c : Dev nD) (f : Buf (Elt F) ((c : Thread nD τ).loc cc0_scratch0)) :
    (((c : Thread nD τ).loc cc0_scratch0) ↦{fullShare} f : sProp 𝕄) ⊢ bigSepL blocks fun t => iprop(∃ g, slotPts c t g) := by
  rw [slots_eq, bigSep_univ_eq_bigSepL blocks (List.toFinset_finRange 32).symm (List.nodup_finRange 32)]
  refine bigSepL_mono fun t _ => ?_
  iintro H; iexists f; iexact H

omit [FloatOps F] in
/-- The blocks by number are its own block and at each hop the block for the device there; -/
theorem slots_hops (c : Dev nD) (f : Buf (Elt F) ((c : Thread nD τ).loc cc0_scratch0)) :
    (bigSepL blocks fun t => slotPts c t f) = iprop(slotPts c c f ∗ bigSepL hops fun r => slotPts c (nxt c r) f) := by
  rw [← all_nxt c (fun t => slotPts c t f), bigSep_univ_eq_bigSepL blocks (List.toFinset_finRange 32).symm (List.nodup_finRange 32)]
omit [FloatOps F] in
/-- and they are the whole send buffer. -/
theorem slots_join (c : Dev nD) (f : Buf (Elt F) ((c : Thread nD τ).loc cc0_scratch0)) :
    iprop(slotPts c c f ∗ bigSepL hops fun r => slotPts c (nxt c r) f) ⊢ (((c : Thread nD τ).loc cc0_scratch0) ↦{fullShare} f : sProp 𝕄) := by
  rw [slots_eq, all_nxt c]

/-! ## The run -/

/-- From the barrier on: the blocks are stored, the rows have been handed out, and the copies are still to be made. -/
theorem exchange (c : Dev nD) (Q : PUnit → sProp 𝕄) :
    iprop(records ys K ∗ levAts L lv ∗ positions c 0 ∗ credits c ∗ owed c (owedRecv c hops)
        ∗ (dutyTok ER (at_ c .loc) 0 0 ∗ (bigSepL hops fun r => dutyTok ER (at_ c (.send r)) 0 0) ∗ (bigSepL hops fun r => dutyTok ER (at_ (nxt c r) (.recv r)) 0 0))
        ∗ (∃ g, rowPts c c g) ∗ slotPts c c (sbufOf (ys c)) ∗ (bigSepL hops fun r => slotPts c (nxt c r) (sbufOf (ys c))))
      ⊢ iprop(((owed c 0 ∗ positions c 1 ∗ (((c : Thread nD τ).loc cc0_stg2_0) ↦{fullShare} outOf ys c)
            ∗ (((c : Thread nD τ).loc cc0_scratch0) ↦{fullShare} sbufOf (ys c))) -∗ runs c (.ret ⟨⟩) Q)
        -∗ runs c ((semWaitWord barS 31#32).bind fun _ => walk (sendStep c) hops <| (localStep c).bind fun _ => walk (recvStep c) hops <|
            (localWaitStep c).bind fun _ => walk (sentStep c) hops <| .ret ⟨⟩) Q) := by
  unfold positions credits
  rw [cells_eq, cells_eq]
  iintro ⟨#HR, #Hlev, ⟨⟨HpB, HpL⟩, HpS, HpV⟩, ⟨HcB, HcV⟩, HO, ⟨HtL, HtS, HtV⟩, Hown, Hs, Hss⟩ Hk
  iapply (barrier_step ys K c) $$ [HcB HpB HO]
  · isplitr; · iexact HR
    isplitl [HcB]; · iexact HcB
    isplitr; · iexact Hlev
    isplitl [HpB] <;> iassumption
  iintro ⟨HO, HpB, Hrows⟩
  iapply (sends ys K c _ Q hops) $$ [Hss Hrows HO HtS HtV]
  · isplitr; · iexact HR
    isplitl [Hss]; · iexact Hss
    isplitl [Hrows]; · iexact Hrows
    isplitl [HO]; · iexact HO
    isplitl [HtS] <;> iassumption
  iintro ⟨HcS, HO⟩
  iapply (local_step ys K c) $$ [Hs Hown HtL]
  · isplitr; · iexact HR
    isplitl [Hs]; · iexact Hs
    isplitl [Hown] <;> iassumption
  iintro HcL
  iapply (recvs ys K c _ Q hops) $$ [HcV HpV HO]
  · isplitr; · iexact HR
    isplitl [HcV]; · iexact HcV
    isplitl [HpV] <;> iassumption
  iintro ⟨HO, HpV, Hrows⟩
  iapply (local_wait ys K c) $$ [HcL HpL HO]
  · isplitr; · iexact HR
    isplitl [HcL]; · iexact HcL
    isplitl [HpL] <;> iassumption
  iintro ⟨HO, HpL, Hown, Hs⟩
  iapply (sents ys K c _ Q hops) $$ [HcS HpS HO]
  · isplitr; · iexact HR
    isplitl [HcS]; · iexact HcS
    isplitl [HpS] <;> iassumption
  iintro ⟨HO, HpS, Hss⟩
  iapply Hk
  isplitl [HO]; · iexact HO
  isplitl [HpB HpL HpS HpV]
  · isplitl [HpB HpL]
    · isplitl [HpB] <;> iassumption
    isplitl [HpS] <;> iassumption
  isplitl [Hown Hrows]
  · iapply (rows_join c (outOf ys c))
    isplitl [Hown] <;> iassumption
  iapply (slots_join c (sbufOf (ys c)))
  isplitl [Hs] <;> iassumption

omit [FloatOps F] in
/-- The offsets of a whole two-axis access are zero. -/
theorem zeros2 : (![0, 0] : Fin 2 → Nat) = fun _ => 0 := funext fun a => by fin_cases a <;> rfl
omit [FloatOps F] in
/-- The kernel reads all of its block of `x`, -/
theorem read_x (f : (cc0_stg0_0 : Ref sig .tc).ty.Contents (Elt F)) :
    xM.view.readAt (Elt F) (Rect.unit (s := S32x1024) ![0, 0] S32x1024.size inb_S32x1024_S32x1024_0_0).toLoadRect f = f :=
  Memref.readAt_unit_zero (Elt F) cc0_stg0_0 zeros2 _ f
omit [FloatOps F] in
/-- and all of `w`. -/
theorem read_w (f : (cc0_stg1_0 : Ref sig .tc).ty.Contents (Elt F)) :
    wM.view.readAt (Elt F) (Rect.unit (s := S1024x1024) ![0, 0] S1024x1024.size inb_S1024x1024_S1024x1024_0_0).toLoadRect f = f :=
  Memref.readAt_unit_zero (Elt F) cc0_stg1_0 zeros2 _ f

/-- What `c` holds when its body starts, the records apart, with `x` and `w` in its operand buffers. -/
def entry (c : Dev nD) (x : Buf (Elt F) ((c : Thread nD τ).loc cc0_stg0_0)) (w : Buf (Elt F) ((c : Thread nD τ).loc cc0_stg1_0)) : sProp 𝕄 :=
  iprop(levAts L lv ∗ positions c 0 ∗ credits c ∗ payTokens c ∗ owed c (O₀ c)
    ∗ (((c : Thread nD τ).loc cc0_stg0_0) ↦{fullShare} x) ∗ (((c : Thread nD τ).loc cc0_stg1_0) ↦{fullShare} w)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f))
/-- What it holds when its body ends: the result in place of whatever was there, every semaphore at zero, nothing owed. -/
def exit (c : Dev nD) (x : Buf (Elt F) ((c : Thread nD τ).loc cc0_stg0_0)) (w : Buf (Elt F) ((c : Thread nD τ).loc cc0_stg1_0)) : sProp 𝕄 :=
  iprop(allZero c ∗ owed c 0
    ∗ (((c : Thread nD τ).loc cc0_stg0_0) ↦{fullShare} x) ∗ (((c : Thread nD τ).loc cc0_stg1_0) ↦{fullShare} w)
    ∗ (((c : Thread nD τ).loc cc0_stg2_0) ↦{fullShare} outOf ys c)
    ∗ (((c : Thread nD τ).loc cc0_scratch0) ↦{fullShare} sbufOf (ys c)))

/-- The body takes `entry` to `exit`, when `ys c` is the activated product of what the operand buffers hold. -/
theorem body_runs (c : Dev nD) (x : Buf (Elt F) ((c : Thread nD τ).loc cc0_stg0_0)) (w : Buf (Elt F) ((c : Thread nD τ).loc cc0_stg1_0))
    (hy : k0_pay1 x w = ys c) (Q : PUnit → sProp 𝕄) :
    iprop(records ys K ∗ entry c x w ∗ (exit ys c x w -∗ Q ⟨⟩)) ⊢ runs c listed Q := by
  rw [show (listed : Code F PUnit) = .op .deviceId fun d => walk (signalStep d) hops <|
      .op (.load xM (Rect.unit (s := S32x1024) ![0, 0] S32x1024.size inb_S32x1024_S32x1024_0_0).toLoadRect (View.loadsAt_vmem h_S32x1024)) fun v =>
      .op (.load wM (Rect.unit (s := S1024x1024) ![0, 0] S1024x1024.size inb_S1024x1024_S1024x1024_0_0).toLoadRect (View.loadsAt_vmem h_S1024x1024)) fun w =>
      afterProduct d (k0_pay1 v w) from rfl]
  unfold runs
  rw [wp_deviceId]
  unfold entry payTokens O₀
  iintro ⟨#HR, ⟨#Hlev, Hp, Hc, ⟨HtB, Ht⟩, HO, Hx, Hw, ⟨%f, Hout⟩, ⟨%g, Hbuf⟩⟩, Hk⟩
  ihave Ho := (rows_open c f) $$ Hout
  icases Ho with ⟨Hown, Hrows⟩
  iapply (signals ys K c (owedRecv c hops) _ Q hops) $$ [HtB Hrows HO]
  · isplitr; · iexact HR
    isplitl [HtB]; · iexact HtB
    isplitl [Hrows] <;> iassumption
  iintro HO
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w, hy]
  unfold afterProduct
  ihave Hb := (slots_open c g) $$ Hbuf
  iapply (stores c (ys c) _ Q blocks) $$ Hb
  iintro Hb
  ihave Hb' := (Entails.of_eq (slots_hops c (sbufOf (ys c)))) $$ Hb
  icases Hb' with ⟨Hs, Hss⟩
  iapply (exchange ys K c Q) $$ [Hp Hc HO Ht Hown Hs Hss]
  · isplitr; · iexact HR
    isplitr; · iexact Hlev
    isplitl [Hp]; · iexact Hp
    isplitl [Hc]; · iexact Hc
    isplitl [HO]; · iexact HO
    isplitl [Ht]; · iexact Ht
    isplitl [Hown]; · iexact Hown
    isplitl [Hs] <;> iassumption
  iintro ⟨HO, Hp, Hout, Hbuf⟩
  imod (close_all ys K c) $$ [Hp] with Hz
  · isplitr; · iexact HR
    iexact Hp
  rw [wp_ret]
  imodintro
  iapply Hk
  unfold exit
  isplitl [Hz]; · iexact Hz
  isplitl [HO]; · iexact HO
  isplitl [Hx]; · iexact Hx
  isplitl [Hw]; · iexact Hw
  isplitl [Hout] <;> iassumption

end Cert.AllToAll

end
-- ==== Proof.Launch.lean ====
/-
# The launch

What each device is dealt at launch, what the pipeline's staging theorem asks of the body, and the run of the whole
program: on any memory with counters at zero it ends, with `x` and `w` as they were, the result array holding `outOf`,
and every counter at zero.
-/
module

public import proofs.«01_k».proof.Proof.Body
public import Idealize.ShloMosaic.Lib.Pipeline.ValueKit.Geometry
public import Idealize.ShloMosaic.Lib.Pipeline.CollectiveSegs

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What is staged, and what is computed from it -/

/-- The block of `x` device `c` stages, -/
def xstg (c : Dev nD) : (cc0_stg0_0 : Ref sig .tc).ty.Contents (Elt F) :=
  (win0_0.blk (0 : Fin 1)).view.read (Elt F) (m ((c : Thread nD τ).loc main_arg0))
/-- and the `w` it stages. -/
def wstg (c : Dev nD) : (cc0_stg1_0 : Ref sig .tc).ty.Contents (Elt F) :=
  (win0_1.blk (0 : Fin 1)).view.read (Elt F) (m ((c : Thread nD τ).loc main_arg1))
/-- Its activated product, 32 by 1024. -/
def prod (c : Dev nD) : FVec F S32x1024 .f32 := k0_pay1 (xstg m c) (wstg m c)

/-! ## The staging pipeline's view of the body -/

/-- The grid's one point, -/
def pt : Fin cfg0.N := t0_0
/-- which is every point. -/
theorem eq_pt (t : Fin cfg0.N) : t = pt := fin_N0 t

/-- What the launch leaves with device `c` for its body. -/
def held (c : Dev nD) : sProp 𝕄 :=
  iprop((∃ K, records (prod m) K ∗ positions c 0 ∗ payTokens c) ∗ credits c ∗ levAts L lv)
/-- Before the body: that, and the send buffer. -/
def before (c : Dev nD) : sProp 𝕄 :=
  iprop(held m c ∗ ∃ f : Buf (Elt F) ((c : Thread nD τ).loc cc0_scratch0), ((c : Thread nD τ).loc cc0_scratch0) ↦{fullShare} f)
/-- After it: every semaphore at zero, and the send buffer. -/
def afterwards (c : Dev nD) : sProp 𝕄 :=
  iprop(allZero c ∗ ∃ f : Buf (Elt F) ((c : Thread nD τ).loc cc0_scratch0), ((c : Thread nD τ).loc cc0_scratch0) ↦{fullShare} f)

/-- The pipeline's data: the arrays at launch, what the body leaves staged, and what it takes and returns. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outOf (prod m) c
  Φ t := match t with
    | ⟨0, _⟩ => before m c
    | ⟨_ + 1, _⟩ => afterwards c
  q _ := fullShare
  owed t := match t with
    | ⟨0, _⟩ => O₀ c
    | ⟨_ + 1, _⟩ => 0

/-- `x` is fetched, -/
theorem fetch_x (t : Fin cfg0.N) : (cfg0.win (0 : Fin 3)).fetch t = true := by rw [eq_pt t]; rfl
/-- and so is `w`. -/
theorem fetch_w (t : Fin cfg0.N) : (cfg0.win (1 : Fin 3)).fetch t = true := by rw [eq_pt t]; rfl

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a whole buffer is its points-to. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the body, -/
def handed (c : Dev nD) : sProp 𝕄 :=
  iprop(before m c ∗ (dats m 0 c).owesAt () pt.castSucc
    ∗ (∃ d, stg c cc0_stg0_0 ((dats m 0 c).before (0 : Fin 3) pt d))
    ∗ (∃ d, stg c cc0_stg1_0 ((dats m 0 c).before (1 : Fin 3) pt d))
    ∗ (∃ d, stg c cc0_stg2_0 ((dats m 0 c).before (2 : Fin 3) pt d)))
/-- and what it expects back. -/
def returned (c : Dev nD) : sProp 𝕄 :=
  iprop(afterwards c ∗ (dats m 0 c).owesAt () pt.succ
    ∗ stg c cc0_stg0_0 (xstg m c) ∗ stg c cc0_stg1_0 (wstg m c) ∗ stg c cc0_stg2_0 (outOf (prod m) c))

/-- The body meets it. -/
theorem body_meets (c : Dev nD) : handed m c ⊢ runs c listed fun _ => returned m c := by
  unfold handed before held
  iintro ⟨⟨⟨⟨%K, #HR, Hp, Ht⟩, Hc, #Hlev⟩, Hbuf⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch_x pt)]; rfl
  have hw : g1 = wstg m c := by rw [hg1]; unfold Dat.before; rw [if_pos (fetch_w pt)]; rfl
  subst hx hw
  unfold Dat.owesAt Pipeline.owesWithin
  icases Ho with ⟨%W, %hW, HO⟩
  rw [show (dats m 0 c).owed pt.castSucc = O₀ c from rfl]
  iapply (body_runs (prod m) K c (xstg m c) (wstg m c) rfl fun _ => returned m c)
  isplitr; · iexact HR
  isplitl
  · unfold entry owed
    isplitr; · iexact Hlev
    isplitl [Hp]; · iexact Hp
    isplitl [Hc]; · iexact Hc
    isplitl [Ht]; · iexact Ht
    isplitl [HO]; · iexists W; iexact HO
    isplitl [Hx]; · iexact Hx
    isplitl [Hw]; · iexact Hw
    isplitl [Hout]; · iexists g2; iexact Hout
    iexact Hbuf
  unfold exit returned afterwards owed Dat.owesAt Pipeline.owesWithin
  rw [show (dats m 0 c).owed pt.succ = 0 from rfl]
  iintro ⟨Hz, ⟨%W', HO⟩, Hx, Hw, Hout, Hbuf⟩
  isplitl [Hz Hbuf]
  · isplitl [Hz]; · iexact Hz
    iexists _; iexact Hbuf
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 20000 in
/-- The staging theorem's obligation for the body. -/
theorem body_obligation (c : Dev nD) : BodyObligation (dats (F := F) m 0 c) (defs₀ (F := F)) 𝒱₀ () Set.univ := fun t => by
  rw [eq_pt t]
  rw [bigSep_W0, bigSep_W0]
  simp only [owns_stg]
  show handed m c ⊢ wp frame (wpE (defs₀ (F := F)) 𝒱₀ c none) Set.univ
    (cc0_body xM (Memref.isWhole_whole _) wM (Memref.isWhole_whole _) oM (Memref.isWhole_whole _) bM (Memref.isWhole_whole _)
      cc0_scratch1 cc0_scratch2 cc0_scratch3) fun _ => returned m c
  rw [body_eq]
  exact body_meets m c

/-! ## The semaphores at launch -/

/-- A device's copy semaphores: the local one, and each hop's send and receive one. They are the kernel's own. -/
abbrev Copies : Type := Unit ⊕ (Fin 31 ⊕ Fin 31)
/-- The cell of a copy semaphore, -/
abbrev copyCell : Copies → Cell
  | .inl _ => .loc
  | .inr k => .inr k
/-- and the semaphore. -/
abbrev osem (k : Copies) : SemLoc sig := semOf (copyCell k)

/-- The copy semaphores are scoped, different, and none of the staging's. -/
theorem ownSemFacts : Pipeline.OwnSemFacts cfg0.spec osem := by decide +kernel

/-- The pipeline holds each array whole. -/
theorem share_eq (c : Dev nD) (w : Fin cfg0.W) : (dats m 0 c).share w = fullShare := by unfold Dat.share; split <;> rfl

omit [FloatOps F] in
/-- The launch's semaphores of one device at zero are all its semaphores at zero. -/
theorem zero_eq (c : Dev nD) :
    iprop(unscopedSems0 c ∗ Pipeline.ownSems0 (Ix := Unit) (Name := ℕ) (U := UU) (Lvl := ℕ) (Val := Elt F) (τ := τ) osem c) = (allZero c : sProp 𝕄) := by
  unfold allZero Pipeline.ownSems0 unscopedSems0
  rw [bigSep_eq_bigSepL_of_eq [SemLoc.reg barS] (by decide) (by decide), bigSepL_singleton, bigSep_univ_sum, bigSep_univ_sum,
    bigSep_univ_sum, bigSep_univ_sum, bigSep_univ_eq_bigSepL [()] (by decide) (by decide), bigSepL_singleton, bigSep_univ_eq_bigSepL [false, true] (by decide) (by decide),
    bigSepL_cons_cons, bigSepL_singleton]
  show iprop(semVal (at_ c .bar) 0 ∗ semVal (at_ c .loc) 0 ∗ (bigSep Finset.univ fun r : Fin 31 => semVal (at_ c (.send r)) 0)
      ∗ (bigSep Finset.univ fun r : Fin 31 => semVal (at_ c (.recv r)) 0))
    = iprop((semVal (at_ c .bar) 0 ∗ semVal (at_ c .loc) 0) ∗ (bigSep Finset.univ fun r : Fin 31 => semVal (at_ c (.send r)) 0)
      ∗ (bigSep Finset.univ fun r : Fin 31 => semVal (at_ c (.recv r)) 0))
  exact (equiv_iff.mp ⟨BI.sep_assoc, BI.sep_assoc'⟩).symm

/-- All semaphores of all devices, -/
theorem at_injective : Function.Injective fun ck : Dev nD × Cell => at_ ck.1 ck.2 :=
  fun a b h => Prod.ext (at_inj h).1 (at_inj h).2
/-- The semaphores of all cells of all devices, -/
def allCells : Finset (GSem nD τ sig) := Finset.univ.map ⟨fun ck : Dev nD × Cell => at_ ck.1 ck.2, at_injective⟩

/-- and the token of every duty of each: a barrier's 31, and one of every copy semaphore. -/
abbrev tokOf (cj : Dev nD × (Fin 31 ⊕ Copies)) : GSem nD τ sig × ℕ × Fin 31 :=
  match cj.2 with
  | .inl d => (at_ cj.1 .bar, 0, d)
  | .inr k => (at_ cj.1 (copyCell k), 0, 0)
/-- Different copies have different cells, -/
theorem copyCell_inj {k k' : Copies} (h : copyCell k = copyCell k') : k = k' := by
  revert k k'; decide +kernel
/-- none of them the barrier, -/
theorem copyCell_ne (k : Copies) : copyCell k ≠ .bar := by rcases k with _ | _ <;> exact fun h => by cases h
/-- so different duties have different tokens. -/
theorem tokOf_injective : Function.Injective tokOf := by
  rintro ⟨c, j⟩ ⟨c', j'⟩ h
  rcases j with d | k <;> rcases j' with d' | k'
  · have h1 := at_inj (congrArg Prod.fst h)
    have h2 : d = d' := congrArg (fun x : GSem nD τ sig × ℕ × Fin 31 => x.2.2) h
    exact Prod.ext h1.1 (congrArg Sum.inl h2)
  · exact absurd (at_inj (congrArg Prod.fst h)).2.symm (copyCell_ne k')
  · exact absurd (at_inj (congrArg Prod.fst h)).2 (copyCell_ne k)
  · have h1 := at_inj (congrArg Prod.fst h)
    exact Prod.ext h1.1 (congrArg Sum.inr (copyCell_inj h1.2))
/-- The tokens of all duties. -/
def allToks : Finset (GSem nD τ sig × ℕ × Fin 31) := Finset.univ.map ⟨tokOf, tokOf_injective⟩

/-- The ghost state at launch. -/
def u₀ : UU := (initOf (Pipeline.cells cfgs cellOf_inj) (Pipeline.launchToks cfgs cellOf_inj), initOf allCells allToks)

/-- The tokens of device `c`'s own semaphores. -/
def toks (c : Dev nD) : sProp 𝕄 :=
  iprop((bigSepL hops fun d => dutyTok ER (at_ c .bar) 0 d) ∗ dutyTok ER (at_ c .loc) 0 0
    ∗ (bigSepL hops fun r => dutyTok ER (at_ c (.send r)) 0 0) ∗ (bigSepL hops fun r => dutyTok ER (at_ c (.recv r)) 0 0))

/-- What the launch deals device `c`, -/
def dealt (c : Dev nD) : sProp 𝕄 :=
  iprop((bigSep Finset.univ fun k : Cell => roundState ER (plan (prod m)) (at_ c k) 0) ∗ positions c 0
    ∗ (bigSep Finset.univ fun k : Cell => reached ER (at_ c k) 0) ∗ toks c)
/-- and what becomes of it once the tokens are with those who pay. -/
def ready (c : Dev nD) : sProp 𝕄 := iprop(∃ K, records (prod m) K ∗ positions c 0 ∗ payTokens c)

/-- The launch's ghost state deals every device its part. -/
theorem fund : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Cell => Φ (at_ c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_sum, bigSep_univ_sum, bigSep_univ_eq_bigSepL [()] (by decide) (by decide), bigSepL_singleton,
      bigSep_univ_eq_bigSepL hops (List.toFinset_finRange 31).symm (List.nodup_finRange 31),
      bigSep_univ_eq_bigSepL hops (List.toFinset_finRange 31).symm (List.nodup_finRange 31),
      bigSep_univ_eq_bigSepL hops (List.toFinset_finRange 31).symm (List.nodup_finRange 31)]
    rfl
  iintro HX
  imod (Rounds.fund ER (plan (prod m)) allCells allToks) $$ HX with ⟨Hst, Hr, Hat, Htok⟩
  imodintro
  ihave Hst' := (Entails.of_eq (hX fun g => roundState ER (plan (prod m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt positions; simp only [bigSep_sep']
  isplitl [Hst']; · iexact Hst'
  isplitl [Hat']; · iexact Hat'
  isplitl [Hr'] <;> iassumption

/-- One device's semaphores come under the plan. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Cell => iprop(∃ κ : ℕ, cellInv ER (plan (prod m)) κ (at_ c k)))
          ∗ (bigSep Finset.univ fun k : Cell => reached ER (at_ c k) 0) ∗ positions c 0 ∗ toks c) := by
  have hinv : iprop(allZero c ∗ bigSep Finset.univ fun k : Cell => roundState ER (plan (prod m)) (at_ c k) 0)
      ⊢ (|={Set.univ}=> bigSep Finset.univ fun k : Cell => iprop(∃ κ : ℕ, cellInv ER (plan (prod m)) κ (at_ c k)) : sProp 𝕄) := by
    unfold allZero
    rw [← bigSep_sep']
    exact (bigSep_mono fun k _ => (Rounds.body_intro ER (plan (prod m)) (at_ c k)).trans inv_alloc).trans (bigSep_fupd _ _)
  unfold dealt
  iintro ⟨Hos, Hus, Hst, Hp, Hr, Htok⟩
  ihave Hz := (Entails.of_eq (zero_eq (F := F) c)) $$ [Hos Hus]
  · isplitl [Hus] <;> iassumption
  imod hinv $$ [Hz Hst] with Hinv
  · isplitl [Hz] <;> iassumption
  imodintro
  isplitl [Hinv]; · iexact Hinv
  isplitl [Hr]; · iexact Hr
  isplitl [Hp] <;> iassumption

omit [FloatOps F] in
/-- Something for every device and hop, dealt to the device one hop back. -/
theorem deal (Φ : Dev nD → Fin 31 → sProp 𝕄) :
    (bigSep Finset.univ fun c : Dev nD => bigSepL hops fun r => Φ c r) = bigSep Finset.univ fun c : Dev nD => bigSepL hops fun r => Φ (nxt c r) r := by
  have h (Ψ : Dev nD → Fin 31 → sProp 𝕄) : (bigSep Finset.univ fun c : Dev nD => bigSepL hops fun r => Ψ c r)
      = bigSep Finset.univ fun r : Fin 31 => bigSep Finset.univ fun c : Dev nD => Ψ c r := by
    rw [← Pipeline.bigSep_univ_comm]
    exact bigSep_congr fun c _ => (bigSep_univ_eq_bigSepL hops (List.toFinset_finRange 31).symm (List.nodup_finRange 31) (Ψ c)).symm
  rw [h, h]
  exact bigSep_congr fun r _ => bigSep_univ_equiv (turn r) fun c => Φ c r

omit [FloatOps F] in
/-- The hops in the opposite order. -/
theorem hops_rev (Φ : Fin 31 → sProp 𝕄) : bigSepL hops Φ = bigSepL hops fun r => Φ r.rev := by
  rw [← bigSep_univ_eq_bigSepL hops (List.toFinset_finRange 31).symm (List.nodup_finRange 31),
    ← bigSep_univ_eq_bigSepL hops (List.toFinset_finRange 31).symm (List.nodup_finRange 31)]
  exact bigSep_univ_equiv Fin.revPerm Φ

omit [FloatOps F] in
/-- The tokens, dealt to those who pay with them. -/
theorem toks_around : (bigSep Finset.univ fun c : Dev nD => (toks c : sProp 𝕄)) = bigSep Finset.univ fun c : Dev nD => payTokens c := by
  unfold toks payTokens
  simp only [bigSep_sep']
  rw [deal (fun c r => dutyTok ER (at_ c (.recv r)) 0 0),
    bigSep_congr (s := Finset.univ) fun (c : Dev nD) _ => hops_rev fun d => (dutyTok ER (at_ c .bar) 0 d : sProp 𝕄),
    deal (fun c r => dutyTok ER (at_ c .bar) 0 r.rev)]

/-- What all devices have made, regrouped: one table of names, known to all. -/
theorem regroup :
    (bigSep Finset.univ fun c : Dev nD => iprop((bigSep Finset.univ fun k : Cell => iprop(∃ κ : ℕ, cellInv ER (plan (prod m)) κ (at_ c k)))
          ∗ (bigSep Finset.univ fun k : Cell => reached ER (at_ c k) 0) ∗ positions c 0 ∗ toks c) : sProp 𝕄)
      ⊢ bigSep Finset.univ (ready m) := by
  rw [bigSep_sep', bigSep_sep', bigSep_sep', toks_around,
    ← bigSep_univ_prod (fun ck : Dev nD × Cell => iprop(∃ κ : ℕ, cellInv ER (plan (prod m)) κ (at_ ck.1 ck.2))),
    ← bigSep_univ_prod (fun ck : Dev nD × Cell => (reached ER (at_ ck.1 ck.2) 0 : sProp 𝕄))]
  iintro ⟨HI, #HR, Hp, Htok⟩
  ihave HK := (BI.bigSep_exists_pi Finset.univ (fun (ck : Dev nD × Cell) (κ : ℕ) => (cellInv ER (plan (prod m)) κ (at_ ck.1 ck.2) : sProp 𝕄))) $$ HI
  icases HK with ⟨%K, #HI⟩
  have hall : iprop(records (prod m) K ∗ (bigSep Finset.univ fun c : Dev nD => positions c 0) ∗ bigSep Finset.univ fun c : Dev nD => payTokens c)
      ⊢ (bigSep Finset.univ (ready m) : sProp 𝕄) := by
    refine (sep_mono_left (BI.bigSep_of_persistent (Finset.univ : Finset (Dev nD)) (records (prod m) K))).trans ?_
    rw [← bigSep_sep', ← bigSep_sep']
    refine bigSep_mono fun c _ => ?_
    exact exists_intro (Φ := fun K => iprop(records (prod m) K ∗ positions c 0 ∗ payTokens c)) K
  iapply hall
  isplitr
  · unfold records; isplitl; · iexact HI
    iexact HR
  isplitl [Hp] <;> iassumption

/-- The step all devices take together. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

/-! ## The credit at launch -/

/-- Two cells are one when device and kind agree. -/
theorem at_eq_iff {c c' : Dev nD} {k k' : Cell} : at_ c k = at_ c' k' ↔ c = c' ∧ k = k' :=
  ⟨at_inj, fun ⟨h, h'⟩ => by rw [h, h']⟩

/-- What device `d` owes a semaphore of device `c` at launch. -/
theorem O₀_at (d c : Dev nD) (k : Cell) :
    O₀ d (at_ c k) () = (∑ r : Fin 31, if c = nxt d r ∧ k = .recv r then N else 0) + ∑ r : Fin 31, if c = nxt d r ∧ k = .bar then 1 else 0 := by
  have h (f : Fin 31 → CellTallies nD τ sig Unit) : ∀ l : List (Fin 31), (l.map f).sum (at_ c k) () = (l.map fun r => f r (at_ c k) ()).sum := by
    intro l
    induction l with
    | nil => rfl
    | cons r l ih => rw [List.map_cons, List.sum_cons, List.map_cons, List.sum_cons, ← ih]; rfl
  unfold O₀ owedRecv owedBar
  rw [Pi.add_apply, Finsupp.add_apply, h, h, Fin.sum_univ_def, Fin.sum_univ_def]
  simp only [tallyAt_apply, at_eq_iff, and_true]

/-- Over all devices, exactly one is `r` hops before `c`. -/
theorem sum_hop (c : Dev nD) (r : Fin 31) (n : ℕ) : (∑ d : Dev nD, if c = nxt d r then n else 0) = n := by
  rw [show (∑ d : Dev nD, if c = nxt d r then n else 0) = ∑ d : Dev nD, (fun e => if c = e then n else 0) (turn r d) from rfl,
    Equiv.sum_comp (turn r) fun e => if c = e then n else 0, Finset.sum_ite_eq, if_pos (Finset.mem_univ _)]

/-- The launch's credit at a cell is what the devices together owe it: -/
theorem launch_at (c : Dev nD) (k : Cell) (n : ℕ) (h : (∑ d : Dev nD, O₀ d (at_ c k) ()) = n) :
    tallyOn (at_ c k) (launchCredit (Pipeline.owing O₀) 0 (at_ c k)) = (tallyAt (at_ c k) () n : CellTallies nD τ sig Unit) := by
  unfold tallyAt; refine congrArg _ (Finsupp.ext fun u => ?_); cases u
  rw [Pipeline.launchCredit_owing, Finsupp.single_eq_same, h]

/-- 31 signals at a barrier, -/
theorem launch_bar (c : Dev nD) : (∑ d : Dev nD, O₀ d (at_ c .bar) ()) = 31 := by
  have h1 (d : Dev nD) : O₀ d (at_ c .bar) () = ∑ r : Fin 31, if c = nxt d r then 1 else 0 := by
    rw [O₀_at, Finset.sum_eq_zero fun r _ => if_neg (fun h => by cases h.2), Nat.zero_add]
    simp only [and_true]
  rw [Finset.sum_congr rfl fun d _ => h1 d, Finset.sum_comm, Finset.sum_congr rfl fun r _ => sum_hop c r 1]
  rfl
/-- and one copy at each receive semaphore. -/
theorem launch_recv (c : Dev nD) (r : Fin 31) : (∑ d : Dev nD, O₀ d (at_ c (.recv r)) ()) = N := by
  have h1 (d : Dev nD) : O₀ d (at_ c (.recv r)) () = if c = nxt d r then N else 0 := by
    rw [O₀_at, Finset.sum_eq_single r (fun s _ hs => if_neg fun h => hs (Sum.inr.inj (Sum.inr.inj h.2)).symm) (fun h => absurd (Finset.mem_univ _) h),
      Finset.sum_eq_zero fun s _ => if_neg (fun h => by cases h.2), Nat.add_zero]
    simp only [and_true]
  rw [Finset.sum_congr rfl fun d _ => h1 d, sum_hop]

omit [FloatOps F] in
/-- So the launch gives each device the credit its waits spend. -/
theorem creds (c : Dev nD) : (Pipeline.launchCred O₀ c : sProp 𝕄) ⊢ credits c := by
  have hall : (Pipeline.launchCred O₀ c : sProp 𝕄)
      ⊢ bigSep Finset.univ fun k : Cell => cred (tallyOn (at_ c k) (launchCredit (Pipeline.owing O₀) 0 (at_ c k))) := by
    unfold Pipeline.launchCred
    refine (bigSep_subset (Finset.subset_univ (Finset.univ.map ⟨semOf, fun _ _ h => semOf_inj h⟩))).trans ?_
    rw [bigSep_map]
    exact fun _ h => h
  rw [cells_eq, launch_at c .bar 31 (launch_bar c)] at hall
  have hrecv : (bigSepL hops fun r => cred (tallyOn (at_ c (.recv r)) (launchCredit (Pipeline.owing O₀) 0 (at_ c (.recv r)))) : sProp 𝕄)
      = (bigSepL hops fun r => cred (tallyAt (at_ c (.recv r)) () N) : sProp 𝕄) :=
    congrArg (bigSepL hops) (funext fun r => congrArg cred (launch_at c (.recv r) N (launch_recv c r)))
  rw [hrecv] at hall
  iintro H
  ihave H' := hall $$ H
  icases H' with ⟨⟨HB, -⟩, -, HV⟩
  unfold credits
  isplitl [HB] <;> iassumption

/-! ## The run -/

/-- What the launch leaves a device is what its body starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(held m c ∗ emp) := by
  iintro ⟨-, Hlev, Hcr, -, HG⟩
  ihave Hc := (creds (F := F) c) $$ Hcr
  imodintro
  unfold held ready
  isplitl
  · isplitl [HG]; · iexact HG
    isplitl [Hc]; · iexact Hc
    iexact Hlev
  · iempintro

/-- with the send buffer what the pipeline's entry asks, -/
theorem enter (c : Dev nD) :
    iprop(held m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs] <;> iassumption

/-- and what the body ends with is what the exit asks. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = afterwards c from rfl, scopedRest0_eq]
  unfold afterwards
  rw [← zero_eq]
  iintro ⟨⟨Hb, Ho⟩, Hr⟩
  isplitl [Hb]; · iexact Hb
  isplitl [Ho] <;> iassumption

/-- The staging's own waits are below everything owed. -/
theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr rfl)

/-- What window `w`'s array of device `c` holds at the end. -/
def finalA (c : Dev nD) (w : Fin cfg0.W) : Buf (Elt F) ((cfg0.win w).arr.view.loc (c : Thread nD τ)) := (dats m 0 c).arrAt w cfg0.N

/-- The array of `x` ends as it was, -/
theorem finalA_x (c : Dev nD) : finalA m c (0 : Fin 3) = m ((c : Thread nD τ).loc main_arg0) := (dats m 0 c).arrAt_in (0 : Fin 3) rfl _
/-- so does that of `w`, -/
theorem finalA_w (c : Dev nD) : finalA m c (1 : Fin 3) = m ((c : Thread nD τ).loc main_arg1) := (dats m 0 c).arrAt_in (1 : Fin 3) rfl _
/-- and the result's holds what the device gathered. -/
theorem finalA_out (c : Dev nD) : finalA m c (2 : Fin 3) = outOf (prod m) c :=
  (dats m 0 c).arrAt_eq_of_after_last (2 : Fin 3) pt (by decide +kernel) (outOf (prod m) c) (fun j => rfl)

set_option maxRecDepth 40000 in
/-- The run, with the final arrays as the staging leaves them. -/
theorem run_arrays : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := held m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The whole program, for any float values, from any memory with counters at zero: every fair execution ends, with `x` and
    `w` as they were, the result at `outOf`, and all counters at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outOf (prod m) c)
    ∧ r.2.sem = fun _ => 0) :=
  (θ_run defs _ _).mono (fun r h => ⟨fun c => ⟨(h.1 c (0 : Fin 3)).trans (finalA_x m c), (h.1 c (1 : Fin 3)).trans (finalA_w m c),
    (h.1 c (2 : Fin 3)).trans (finalA_out m c)⟩, h.2⟩) (run_arrays m ρ)

end Cert.AllToAll

end
-- ==== Proof.Product.lean ====
/-
# What one device computes

In exact arithmetic each element of a device's activated product is the activation `act` of a row of `x` times a column
of `w`, summed.
-/
module

public import proofs.«01_k».proof.Proof.Gen.KernelIdeal
public import proofs.«01_k».proof.Proof.Gen.KernelIdeal.Skeleton
public import Idealize.ShloMosaic.Lib.MatmulPlain
public import Idealize.ShloMosaic.Lib.ValueIdx

@[expose] public section

noncomputable section

namespace Cert.AllToAll

open Idealize.ShloMosaic
open Idealize.ShloMosaic.ValueIdx

/-- The tanh approximation of gelu on an extended real: `0.5 · y · (1 + tanh (c · (y + 0.044715 · y³)))`, the four
    constants as the programs write them. -/
def act (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * (y * y)))))

/-- A row of the left matrix times a column of the right. -/
def rowCol {M : ℕ} (x : FVec Ideal ⟨2, ![M, 1024]⟩ .f32) (w : FVec Ideal ⟨2, ![1024, 1024]⟩ .f32) (r : Fin M) (c : Fin 1024) : EReal :=
  ∑ k : Fin 1024, x (ix2 r k) * w (ix2 k c)

open Cert.KernelIdeal Cert.KernelIdeal.Gen

/-- The kernel's matrix product into zeros is the rows times the columns. -/
theorem matmul_at (x : FVec Ideal S32x1024 .f32) (w : FVec Ideal S1024x1024 .f32) (r : Fin 32) (c : Fin 1024) :
    matmul dot_S32x1024_S1024x1024_S32x1024_1_0_0_1_n_n none x w (constant S32x1024 .f32 0x00000000#32) (ix2 r c) = rowCol x w r c := by
  refine (Ideal.matmul_plain_apply none x w (constant S32x1024 .f32 0x00000000#32) r c).trans ?_
  rw [constant_apply, Ideal.ofBits_zero_f32, zero_add]
  rfl

/-- Every element of the activated product. -/
theorem product_at (x : FVec Ideal S32x1024 .f32) (w : FVec Ideal S1024x1024 .f32) (r : Fin 32) (c : Fin 1024) :
    k0_pay1 (F := Ideal) x w (ix2 r c) = act (rowCol x w r c) := by
  have hx : shapeCast S32x1024 x shapeCasts_S32x1024_S32x1024 = x := funext fun i => congrArg x (Shape.reshapeEquiv_self _ i)
  have hw : shapeCast S1024x1024 w shapeCasts_S1024x1024_S1024x1024 = w := funext fun i => congrArg w (Shape.reshapeEquiv_self _ i)
  unfold k0_pay1
  rw [hx, hw, ← matmul_at x w r c]
  rfl

end Cert.AllToAll

end
-- ==== Proof.Whole.lean ====
/-
# What the reference computes

In exact arithmetic the reference's result is the activation of every row of `x` times every column of `w`.
-/
module

public import proofs.«01_k».proof.Proof.Product
public import proofs.«01_k».proof.Proof.Gen.ReferenceIdeal.Run
public import Idealize.ShloMosaic.Lib.StackMember
public import Idealize.ShloMosaic.Lib.IdealHost

@[expose] public section

noncomputable section

namespace Cert.AllToAll

open Idealize.ShloMosaic Idealize.ShloMosaic.TcCoe Idealize.SL.Sem
open Idealize.ShloMosaic.ValueIdx
open Cert.ReferenceIdeal Cert.ReferenceIdeal.Gen

/-- The whole activated product, 1024 by 1024. -/
def whole (x w : FVec Ideal S1024x1024 .f32) : FVec Ideal S1024x1024 .f32 := fun i => act (rowCol x w (i 0) (i 1))

/-- The same activation with the cube multiplied the other way round, as the reference writes it. -/
theorem act_eq (y : EReal) :
    act y = Ideal.ofBits .f32 0x3F000000#32 * y
      * (Ideal.ofBits .f32 0x3F800000#32
        + Ideal.tanh (Ideal.ofBits .f32 0x3F4C422A#32 * (y + Ideal.ofBits .f32 0x3D372713#32 * (y * y * y)))) := by
  unfold act; rw [mul_comm y (y * y)]

/-- The reference's matrix product is the rows times the columns. -/
theorem dot_at (x w : FVec Ideal S1024x1024 .f32) (r c : Fin 1024) :
    Host.dotGeneral dot_S1024x1024_S1024x1024_S1024x1024_1_0_0_1_n_n none x w (ix2 r c) = rowCol x w r c :=
  StackMember.dotGeneral_plain_apply none x w r c

/-- A constant broadcast to the array reads that constant everywhere. -/
theorem const_at (b : BitVec 32) (i : S1024x1024.Idx) :
    broadcastInDim S1024x1024 ![] bcast_S_S1024x1024 (constant (F := Ideal) S_ .f32 b) i = Ideal.ofBits .f32 b :=
  broadcastInDim_scalar_apply _ _ _

/-- The reference runs, ends with its result at the whole activated product, and leaves `x` and `w` alone. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v13) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  funext i
  obtain ⟨a, b, rfl⟩ : ∃ (a b : Fin 1024), i = ix2 a b := ⟨i 0, i 1, eq_ix2 i⟩
  show _ = act (rowCol _ _ a b)
  rw [act_eq, ← dot_at, mulf_apply, mulf_apply, addf_apply, const_at, const_at]
  show _ * (_ + Ideal.tanh _) = _
  rw [mulf_apply, addf_apply, mulf_apply, mulf_apply, mulf_apply, const_at, const_at]

end Cert.AllToAll

end
-- ==== Proof.Equation.lean ====
/-
# The equation

When each device holds its 32 rows of `x` and all of `w`, the result array every device ends with is its 32 columns of
the whole activated product.
-/
module

public import proofs.«01_k».proof.Proof.Launch
public import proofs.«01_k».proof.Proof.Whole

@[expose] public section

noncomputable section

namespace Cert.AllToAll

open Idealize.ShloMosaic Idealize.ShloMosaic.TcCoe Idealize.SL.Sem
open Idealize.ShloMosaic.ValueIdx
open Cert.KernelIdeal Cert.KernelIdeal.Gen

section
variable {F : FTy → Type} [FloatOps F] (m : (ℓ : Loc nD τ sig) → Buf (Elt F) ℓ)

/-- A device stages all of its `x`, -/
theorem xstg_eq (c : Dev nD) : xstg m c = m ((c : Thread nD τ).loc main_arg0) := by
  funext i
  refine congrArg (m ((c : Thread nD τ).loc main_arg0)) (funext fun b => Fin.ext ?_)
  match b with
  | ⟨0, _⟩ => exact win0_0.rect_emb_val_of_index_zero (0 : Fin 1) 0 rfl i
  | ⟨1, _⟩ => exact win0_0.rect_emb_val_of_index_zero (0 : Fin 1) 1 rfl i
/-- and all of its `w`. -/
theorem wstg_eq (c : Dev nD) : wstg m c = m ((c : Thread nD τ).loc main_arg1) := by
  funext i
  refine congrArg (m ((c : Thread nD τ).loc main_arg1)) (funext fun b => Fin.ext ?_)
  match b with
  | ⟨0, _⟩ => exact win0_1.rect_emb_val_of_index_zero (0 : Fin 1) 0 rfl i
  | ⟨1, _⟩ => exact win0_1.rect_emb_val_of_index_zero (0 : Fin 1) 1 rfl i

end

/-- Device `c`'s product, of its rows of `x`. -/
theorem prod_at (m : (ℓ : Loc nD τ sig) → Buf (Elt Ideal) ℓ) (X W : FVec Ideal S1024x1024 .f32)
    (hx : ∀ c : Dev nD, m ((c : Thread nD τ).loc main_arg0) = Layout.block S32x1024 S1024x1024 0 32 c X)
    (hw : ∀ c : Dev nD, m ((c : Thread nD τ).loc main_arg1) = W) (c : Dev nD) (r : Fin 32) (j : Fin 1024)
    (hr : 32 * c.val + r.val < 1024) :
    prod m c (ix2 r j) = whole X W (ix2 ⟨32 * c.val + r.val, hr⟩ j) := by
  unfold prod
  rw [product_at, xstg_eq, wstg_eq, hx, hw]
  refine congrArg act (Finset.sum_congr rfl fun k _ => congrArg (· * _) ?_)
  rw [Layout.block_apply]
  refine congrArg X (funext fun b => Fin.ext ?_)
  match b with
  | ⟨0, _⟩ => show c.val * 32 + r.val = 32 * c.val + r.val; omega
  | ⟨1, _⟩ => rfl

/-- What device `c` gathers is its columns of the whole. -/
theorem gathered (m : (ℓ : Loc nD τ sig) → Buf (Elt Ideal) ℓ) (X W : FVec Ideal S1024x1024 .f32)
    (hx : ∀ c : Dev nD, m ((c : Thread nD τ).loc main_arg0) = Layout.block S32x1024 S1024x1024 0 32 c X)
    (hw : ∀ c : Dev nD, m ((c : Thread nD τ).loc main_arg1) = W) (c : Dev nD) :
    outOf (prod m) c = Layout.block S1024x32 S1024x1024 1 32 c (whole X W) := by
  funext i
  have h0 : (i 0).val < 1024 := (i 0).isLt
  unfold outOf
  rw [prod_at m X W hx hw _ _ _ (by show 32 * ((i 0).val / 32) + (i 0).val % 32 < 1024; omega), Layout.block_apply]
  refine congrArg (whole X W) (funext fun b => Fin.ext ?_)
  match b with
  | ⟨0, _⟩ => show 32 * ((i 0).val / 32) + (i 0).val % 32 = (i 0).val; omega
  | ⟨1, _⟩ => show 32 * c.val + (i 1).val = c.val * 32 + (i 1).val; omega

end Cert.AllToAll

end
-- ==== Proof.lean ====
/-
# The claims

The kernel is a matrix product, an activation, and an exchange among 32 devices; Proof/Launch.lean runs it for any
float values, Proof/Whole.lean runs the reference, and Proof/Equation.lean equates what they compute. Here each claim is
one short step from those.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

section
variable {F : FTy → Type} [FloatOps F]

set_option maxRecDepth 65536 in
/-- The kernel as printed and the kernel as read in exact arithmetic have the same text: their bodies are equal, -/
theorem bodies_eq : Cert.Kernel.defs₀ (F := F) = Cert.KernelIdeal.defs₀ (F := F) := by
  refine congrArg Defs.onTc ?_
  funext l
  match l with
  | 0 => rfl

/-- and so are their tables of bodies. -/
theorem defs_eq : Cert.Kernel.defs (F := F) = Cert.KernelIdeal.defs (F := F) :=
  congrArg (Pipeline.defs Cert.KernelIdeal.pcfgs) bodies_eq

end

/-- The kernel runs on the machine's floats, keeps `x` and `w`, and leaves every counter at zero. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩)
    (Cert.AllToAll.run_main (F := Bits) m ρ)

/-- So it does in exact arithmetic. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.AllToAll.run_main (F := Ideal) m ρ)

/-- The reference runs in exact arithmetic and keeps `x` and `w`; it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.AllToAll.run_reference m ρ)

/-- In exact arithmetic, each device of the kernel ends with its 32 columns of the reference's result. -/
theorem algebraic_kernel : Cert.algebraic_KernelIdeal_ReferenceIdeal := fun m g m' g' _ hag =>
  ⟨_, (θ_run Cert.KernelIdeal.defs _ _).mono
      (fun _ h c => ⟨(h.1 c).2.2.trans (Cert.AllToAll.gathered m _ _ (fun d => (hag d).1) (fun d => (hag d).2) c), (h.1 c).1, (h.1 c).2.1⟩)
      (Cert.AllToAll.run_main (F := Ideal) m g),
    (θ_run Cert.ReferenceIdeal.defs _ _).mono (fun _ h => h 0) (Cert.AllToAll.run_reference m' g')⟩

/-- Everything claimed. -/
theorem claim : Cert.Claim := ⟨Cert.Kernel.Gen.facts, Cert.KernelIdeal.Gen.facts, Cert.ReferenceIdeal.Gen.facts,
  frame_kernel, frame_kernelIdeal, frame_referenceIdeal, trivial, algebraic_kernel⟩

end Cert.Proof

end
